-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S4x1024x256 : Shape := ⟨3, ![4, 1024, 256]⟩
abbrev S_ : Shape := ⟨0, ![]⟩

class Facts : Prop where
  bcast_S_S16384x256 : S_.BroadcastsInDim S16384x256 (![] : Fin 0 → Fin S16384x256.rank)
  bcast_S_S4x1024x256 : S_.BroadcastsInDim S4x1024x256 (![] : Fin 0 → Fin S4x1024x256.rank)

variable [Facts]

def fn {F : FTy → Type} [FloatOps F] (main_arg0 : FVec F S16384x256 .f32) (main_arg1 : FVec F S4x1024x256 .f32) : IVec S16384x256 1 × IVec S4x1024x256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S4x1024x256 .f32 := Host.absf main_arg1
  let main_cst_0 : FVec F S_ .f32 := constant S_ .f32 0x7F800000#32
  let main_v4 : FVec F S4x1024x256 .f32 := broadcastInDim S4x1024x256 ![] bcast_S_S4x1024x256 main_cst_0
  let main_v5 : IVec S4x1024x256 1 := cmpf .olt main_v3 main_v4
  (main_v2, main_v5)
-- ==== Kernel.lean ====
abbrev S16384x256 : Shape := ⟨2, ![16384, 256]⟩
abbrev S4x1024x256 : Shape := ⟨3, ![4, 1024, 256]⟩
abbrev S4x256x1024 : Shape := ⟨3, ![4, 256, 1024]⟩
abbrev S_ : Shape := ⟨0, ![]⟩
abbrev S4x1024 : Shape := ⟨2, ![4, 1024]⟩
abbrev S4x1024x768 : Shape := ⟨3, ![4, 1024, 768]⟩
abbrev S16384x4 : Shape := ⟨2, ![16384, 4]⟩
abbrev S2048x256 : Shape := ⟨2, ![2048, 256]⟩
abbrev S2048x4 : Shape := ⟨2, ![2048, 4]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩
abbrev S1x1024x768 : Shape := ⟨3, ![1, 1024, 768]⟩
abbrev S1024x768 : Shape := ⟨2, ![1024, 768]⟩

abbrev nBuf : Space → Nat
  | .hbm => 86
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S4x1024x256, .f32⟩
  | .hbm, ⟨2, _⟩ => ⟨S4x256x1024, .f32⟩
  | .hbm, ⟨3, _⟩ => ⟨S_, .f32⟩
  | .hbm, ⟨4, _⟩ => ⟨S4x256x1024, .f32⟩
  | .hbm, ⟨5, _⟩ => ⟨S4x256x1024, .f32⟩
  | .hbm, ⟨6, _⟩ => ⟨S4x1024x256, .f32⟩
  | .hbm, ⟨7, _⟩ => ⟨S_, .f32⟩
  | .hbm, ⟨8, _⟩ => ⟨S4x1024, .f32⟩
  | .hbm, ⟨9, _⟩ => ⟨S4x1024x256, .bf16⟩
  | .hbm, ⟨10, _⟩ => ⟨S4x1024x256, .bf16⟩
  | .hbm, ⟨11, _⟩ => ⟨S4x1024x256, .f32⟩
  | .hbm, ⟨12, _⟩ => ⟨S4x1024x256, .f32⟩
  | .hbm, ⟨13, _⟩ => ⟨S_, .f32⟩
  | .hbm, ⟨14, _⟩ => ⟨S4x1024x256, .f32⟩
  | .hbm, ⟨15, _⟩ => ⟨S4x1024x256, .f32⟩
  | .hbm, ⟨16, _⟩ => ⟨S_, .f32⟩
  | .hbm, ⟨17, _⟩ => ⟨S4x1024x256, .f32⟩
  | .hbm, ⟨18, _⟩ => ⟨S4x1024x256, .f32⟩
  | .hbm, ⟨19, _⟩ => ⟨S4x1024x256, .f32⟩
  | .hbm, ⟨20, _⟩ => ⟨S4x1024x256, .f32⟩
  | .hbm, ⟨21, _⟩ => ⟨S4x1024x256, .i1⟩
  | .hbm, ⟨22, _⟩ => ⟨S_, .f32⟩
  | .hbm, ⟨23, _⟩ => ⟨S4x1024x256, .f32⟩
  | .hbm, ⟨24, _⟩ => ⟨S4x1024x256, .i1⟩
  | .hbm, ⟨25, _⟩ => ⟨S4x1024x256, .f32⟩
  | .hbm, ⟨26, _⟩ => ⟨S4x1024x256, .f32⟩
  | .hbm, ⟨27, _⟩ => ⟨S4x1024x256, .f32⟩
  | .hbm, ⟨28, _⟩ => ⟨S4x1024x256, .bf16⟩
  | .hbm, ⟨29, _⟩ => ⟨S4x1024x256, .bf16⟩
  | .hbm, ⟨30, _⟩ => ⟨S4x1024x256, .f32⟩
  | .hbm, ⟨31, _⟩ => ⟨S4x1024x256, .f32⟩
  | .hbm, ⟨32, _⟩ => ⟨S4x1024x256, .f32⟩
  | .hbm, ⟨33, _⟩ => ⟨S4x1024x256, .bf16⟩
  | .hbm, ⟨34, _⟩ => ⟨S4x1024x256, .bf16⟩
  | .hbm, ⟨35, _⟩ => ⟨S4x1024x256, .f32⟩
  | .hbm, ⟨36, _⟩ => ⟨S4x1024x256, .f32⟩
  | .hbm, ⟨37, _⟩ => ⟨S_, .f32⟩
  | .hbm, ⟨38, _⟩ => ⟨S4x1024x256, .f32⟩
  | .hbm, ⟨39, _⟩ => ⟨S4x1024x256, .f32⟩
  | .hbm, ⟨40, _⟩ => ⟨S_, .f32⟩
  | .hbm, ⟨41, _⟩ => ⟨S4x1024x256, .f32⟩
  | .hbm, ⟨42, _⟩ => ⟨S4x1024x256, .f32⟩
  | .hbm, ⟨43, _⟩ => ⟨S4x1024x256, .f32⟩
  | .hbm, ⟨44, _⟩ => ⟨S4x1024x256, .f32⟩
  | .hbm, ⟨45, _⟩ => ⟨S4x1024x256, .i1⟩
  | .hbm, ⟨46, _⟩ => ⟨S_, .f32⟩
  | .hbm, ⟨47, _⟩ => ⟨S4x1024x256, .f32⟩
  | .hbm, ⟨48, _⟩ => ⟨S4x1024x256, .i1⟩
  | .hbm, ⟨49, _⟩ => ⟨S4x1024x256, .f32⟩
  | .hbm, ⟨50, _⟩ => ⟨S4x1024x256, .f32⟩
  | .hbm, ⟨51, _⟩ => ⟨S4x1024x256, .f32⟩
  | .hbm, ⟨52, _⟩ => ⟨S4x1024x256, .bf16⟩
  | .hbm, ⟨53, _⟩ => ⟨S4x1024x256, .bf16⟩
  | .hbm, ⟨54, _⟩ => ⟨S4x1024x256, .f32⟩
  | .hbm, ⟨55, _⟩ => ⟨S4x1024x256, .f32⟩
  | .hbm, ⟨56, _⟩ => ⟨S4x1024x256, .f32⟩
  | .hbm, ⟨57, _⟩ => ⟨S4x1024x256, .bf16⟩
  | .hbm, ⟨58, _⟩ => ⟨S4x1024x256, .bf16⟩
  | .hbm, ⟨59, _⟩ => ⟨S4x1024x256, .bf16⟩
  | .hbm, ⟨60, _⟩ => ⟨S4x1024x256, .bf16⟩
  | .hbm, ⟨61, _⟩ => ⟨S4x1024x256, .f32⟩
  | .hbm, ⟨62, _⟩ => ⟨S4x1024x256, .f32⟩
  | .hbm, ⟨63, _⟩ => ⟨S_, .f32⟩
  | .hbm, ⟨64, _⟩ => ⟨S4x1024x256, .f32⟩
  | .hbm, ⟨65, _⟩ => ⟨S4x1024x256, .f32⟩
  | .hbm, ⟨66, _⟩ => ⟨S_, .f32⟩
  | .hbm, ⟨67, _⟩ => ⟨S4x1024x256, .f32⟩
  | .hbm, ⟨68, _⟩ => ⟨S4x1024x256, .f32⟩
  | .hbm, ⟨69, _⟩ => ⟨S4x1024x256, .f32⟩
  | .hbm, ⟨70, _⟩ => ⟨S4x1024x256, .f32⟩
  | .hbm, ⟨71, _⟩ => ⟨S4x1024x256, .i1⟩
  | .hbm, ⟨72, _⟩ => ⟨S_, .f32⟩
  | .hbm, ⟨73, _⟩ => ⟨S4x1024x256, .f32⟩
  | .hbm, ⟨74, _⟩ => ⟨S4x1024x256, .i1⟩
  | .hbm, ⟨75, _⟩ => ⟨S4x1024x256, .f32⟩
  | .hbm, ⟨76, _⟩ => ⟨S4x1024x256, .f32⟩
  | .hbm, ⟨77, _⟩ => ⟨S4x1024x256, .f32⟩
  | .hbm, ⟨78, _⟩ => ⟨S4x1024x256, .bf16⟩
  | .hbm, ⟨79, _⟩ => ⟨S4x1024x256, .bf16⟩
  | .hbm, ⟨80, _⟩ => ⟨S4x1024x256, .f32⟩
  | .hbm, ⟨81, _⟩ => ⟨S4x1024x256, .f32⟩
  | .hbm, ⟨82, _⟩ => ⟨S4x1024x256, .bf16⟩
  | .hbm, ⟨83, _⟩ => ⟨S4x1024x768, .bf16⟩
  | .hbm, ⟨84, _⟩ => ⟨S16384x4, .i32⟩
  | .hbm, ⟨85, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S4x256x1024, .f32⟩
  | .local _ .vmem, ⟨3, _⟩ => ⟨S4x1024x768, .bf16⟩
  | .local _ .vmem, ⟨4, _⟩ => ⟨S4x1024, .f32⟩
  | .local _ .vmem, ⟨5, _⟩ => ⟨S2048x4, .i32⟩
  | .local _ .vmem, ⟨6, _⟩ => ⟨S2048x4, .i32⟩
  | .local _ .vmem, ⟨7, _⟩ => ⟨S2048x256, .f32⟩
  | .local _ .vmem, ⟨8, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_7 : Ref sig .tc := ⟨.hbm, 63, rfl⟩
abbrev main_v53 : Ref sig .tc := ⟨.hbm, 64, rfl⟩
abbrev main_v54 : Ref sig .tc := ⟨.hbm, 65, rfl⟩
abbrev main_cst_8 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_9 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71_0 : Ref sig .tc := ⟨.hbm, 84, rfl⟩
abbrev main_v71_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x256 : Shape := ⟨2, ![16384, 256]⟩
abbrev S4x1024x256 : Shape := ⟨3, ![4, 1024, 256]⟩
abbrev S1x1024x256 : Shape := ⟨3, ![1, 1024, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S256x1024 : Shape := ⟨2, ![256, 1024]⟩
abbrev S16384x1024 : Shape := ⟨2, ![16384, 1024]⟩
abbrev S1024 : Shape := ⟨1, ![1024]⟩
abbrev S1x1024 : Shape := ⟨2, ![1, 1024]⟩
abbrev S16384x4 : Shape := ⟨2, ![16384, 4]⟩

abbrev nBuf : Space → Nat
  | .hbm => 217
  | .vmem => 0
  | .smem => 0
  | _ => 0

abbrev hbmTy0_0 (i : Nat) : BufTy := match i % 128 with
  | 0 => ⟨S16384x256, .f32⟩
  | 1 => ⟨S4x1024x256, .f32⟩
  | 2 => ⟨S1x1024x256, .f32⟩
  | 3 => ⟨S1024x256, .f32⟩
  | 4 => ⟨S16384x256, .f32⟩
  | 5 => ⟨S_, .f32⟩
  | 6 => ⟨S16384, .f32⟩
  | 7 => ⟨S16384x1, .f32⟩
  | 8 => ⟨S256x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S16384x1024, .f32⟩
  | 15 => ⟨S1024x256, .f32⟩
  | 16 => ⟨S_, .f32⟩
  | 17 => ⟨S1024, .f32⟩
  | 18 => ⟨S1x1024, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S16384x1024, .f32⟩
  | 25 => ⟨S16384x1024, .i32⟩
  | 26 => ⟨S_, .f32⟩
  | 27 => ⟨S_, .i32⟩
  | 28 => ⟨S16384, .f32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S16384x256, .f32⟩
  | 39 => ⟨S16384x256, .f32⟩
  | 40 => ⟨S1x1024x256, .f32⟩
  | 41 => ⟨S1024x256, .f32⟩
  | 42 => ⟨S16384x256, .f32⟩
  | 43 => ⟨S_, .f32⟩
  | 44 => ⟨S16384, .f32⟩
  | 45 => ⟨S16384x1, .f32⟩
  | 46 => ⟨S256x1024, .f32⟩
  | 47 => ⟨S16384x1024, .f32⟩
  | 48 => ⟨S_, .f32⟩
  | 49 => ⟨S16384x1024, .f32⟩
  | 50 => ⟨S16384x1024, .f32⟩
  | 51 => ⟨S16384x1024, .f32⟩
  | 52 => ⟨S16384x1024, .f32⟩
  | 53 => ⟨S1024x256, .f32⟩
  | 54 => ⟨S_, .f32⟩
  | 55 => ⟨S1024, .f32⟩
  | 56 => ⟨S1x1024, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S16384x1024, .f32⟩
  | 63 => ⟨S16384x1024, .i32⟩
  | 64 => ⟨S_, .f32⟩
  | 65 => ⟨S_, .i32⟩
  | 66 => ⟨S16384, .f32⟩
  | 67 => ⟨S16384, .i32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S16384x256, .f32⟩
  | 77 => ⟨S16384x256, .f32⟩
  | 78 => ⟨S1x1024x256, .f32⟩
  | 79 => ⟨S1024x256, .f32⟩
  | 80 => ⟨S16384x256, .f32⟩
  | 81 => ⟨S_, .f32⟩
  | 82 => ⟨S16384, .f32⟩
  | 83 => ⟨S16384x1, .f32⟩
  | 84 => ⟨S256x1024, .f32⟩
  | 85 => ⟨S16384x1024, .f32⟩
  | 86 => ⟨S_, .f32⟩
  | 87 => ⟨S16384x1024, .f32⟩
  | 88 => ⟨S16384x1024, .f32⟩
  | 89 => ⟨S16384x1024, .f32⟩
  | 90 => ⟨S16384x1024, .f32⟩
  | 91 => ⟨S1024x256, .f32⟩
  | 92 => ⟨S_, .f32⟩
  | 93 => ⟨S1024, .f32⟩
  | 94 => ⟨S1x1024, .f32⟩
  | 95 => ⟨S16384x1024, .f32⟩
  | 96 => ⟨S16384x1024, .f32⟩
  | 97 => ⟨S_, .f32⟩
  | 98 => ⟨S16384x1024, .f32⟩
  | 99 => ⟨S16384x1024, .f32⟩
  | 100 => ⟨S16384x1024, .f32⟩
  | 101 => ⟨S16384x1024, .i32⟩
  | 102 => ⟨S_, .f32⟩
  | 103 => ⟨S_, .i32⟩
  | 104 => ⟨S16384, .f32⟩
  | 105 => ⟨S16384, .i32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S16384x256, .f32⟩
  | 115 => ⟨S16384x256, .f32⟩
  | 116 => ⟨S1x1024x256, .f32⟩
  | 117 => ⟨S1024x256, .f32⟩
  | 118 => ⟨S16384x256, .f32⟩
  | 119 => ⟨S_, .f32⟩
  | 120 => ⟨S16384, .f32⟩
  | 121 => ⟨S16384x1, .f32⟩
  | 122 => ⟨S256x1024, .f32⟩
  | 123 => ⟨S16384x1024, .f32⟩
  | 124 => ⟨S_, .f32⟩
  | 125 => ⟨S16384x1024, .f32⟩
  | 126 => ⟨S16384x1024, .f32⟩
  | 127 => ⟨S16384x1024, .f32⟩
  | _ => ⟨S16384x256, .f32⟩

abbrev hbmTy0_1 (i : Nat) : BufTy := match i % 128 with
  | 0 => ⟨S16384x1024, .f32⟩
  | 1 => ⟨S1024x256, .f32⟩
  | 2 => ⟨S_, .f32⟩
  | 3 => ⟨S1024, .f32⟩
  | 4 => ⟨S1x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S16384x1024, .f32⟩
  | 11 => ⟨S16384x1024, .i32⟩
  | 12 => ⟨S_, .f32⟩
  | 13 => ⟨S_, .i32⟩
  | 14 => ⟨S16384, .f32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S16384x256, .f32⟩
  | 25 => ⟨S16384x256, .f32⟩
  | 26 => ⟨S16384x1, .i32⟩
  | 27 => ⟨S16384x1, .i32⟩
  | 28 => ⟨S16384x1, .i32⟩
  | 29 => ⟨S16384x1, .i32⟩
  | 30 => ⟨S16384x4, .i32⟩
  | 31 => ⟨S_, .f32⟩
  | 32 => ⟨S16384x256, .f32⟩
  | 33 => ⟨S1x1024x256, .f32⟩
  | 34 => ⟨S1024x256, .f32⟩
  | 35 => ⟨S16384x1, .i32⟩
  | 36 => ⟨S16384, .i32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S16384x256, .f32⟩
  | 46 => ⟨S16384x256, .f32⟩
  | 47 => ⟨S1x1024x256, .f32⟩
  | 48 => ⟨S1024x256, .f32⟩
  | 49 => ⟨S16384x1, .i32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S16384x256, .f32⟩
  | 60 => ⟨S16384x256, .f32⟩
  | 61 => ⟨S1x1024x256, .f32⟩
  | 62 => ⟨S1024x256, .f32⟩
  | 63 => ⟨S16384x1, .i32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S16384x256, .f32⟩
  | 74 => ⟨S16384x256, .f32⟩
  | 75 => ⟨S1x1024x256, .f32⟩
  | 76 => ⟨S1024x256, .f32⟩
  | 77 => ⟨S16384x1, .i32⟩
  | 78 => ⟨S16384, .i32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S16384x256, .f32⟩
  | 88 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_v0 : Ref sig .tc := ⟨.hbm, 63, rfl⟩
abbrev main_call1_cst : Ref sig .tc := ⟨.hbm, 64, rfl⟩
abbrev main_call1_c : Ref sig .tc := ⟨.hbm, 65, rfl⟩
abbrev main_call1_v1_0 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call2_v0 : Ref sig .tc := ⟨.hbm, 101, rfl⟩
abbrev main_call2_cst : Ref sig .tc := ⟨.hbm, 102, rfl⟩
abbrev main_call2_c : Ref sig .tc := ⟨.hbm, 103, rfl⟩
abbrev main_call2_v1_0 : Ref sig .tc := ⟨.hbm, 104, rfl⟩
abbrev main_v75 : Ref sig .tc := ⟨.hbm, 105, rfl⟩
abbrev main_c_14 : Ref sig .tc := ⟨.hbm, 106, rfl⟩
abbrev main_v76 : Ref sig .tc := ⟨.hbm, 107, rfl⟩
abbrev main_v77 : Ref sig .tc := ⟨.hbm, 108, rfl⟩
abbrev main_c_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_18 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_19 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call3_v0 : Ref sig .tc := ⟨.hbm, 139, rfl⟩
abbrev main_call3_cst : Ref sig .tc := ⟨.hbm, 140, rfl⟩
abbrev main_call3_c : Ref sig .tc := ⟨.hbm, 141, rfl⟩
abbrev main_call3_v1_0 : Ref sig .tc := ⟨.hbm, 142, rfl⟩
abbrev main_v103 : Ref sig .tc := ⟨.hbm, 143, rfl⟩
abbrev main_c_20 : Ref sig .tc := ⟨.hbm, 144, rfl⟩
abbrev main_v104 : Ref sig .tc := ⟨.hbm, 145, rfl⟩
abbrev main_v105 : Ref sig .tc := ⟨.hbm, 146, rfl⟩
abbrev main_c_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_22 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_23 : Ref sig .tc := ⟨.hbm, 165, rfl⟩
abbrev main_v122 : Ref sig .tc := ⟨.hbm, 166, rfl⟩
abbrev main_v123 : Ref sig .tc := ⟨.hbm, 167, rfl⟩
abbrev main_c_24 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_25 : Ref sig .tc := ⟨.hbm, 179, rfl⟩
abbrev main_v134 : Ref sig .tc := ⟨.hbm, 180, rfl⟩
abbrev main_v135 : Ref sig .tc := ⟨.hbm, 181, rfl⟩
abbrev main_c_26 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_27 : Ref sig .tc := ⟨.hbm, 193, rfl⟩
abbrev main_v146 : Ref sig .tc := ⟨.hbm, 194, rfl⟩
abbrev main_v147 : Ref sig .tc := ⟨.hbm, 195, rfl⟩
abbrev main_c_28 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_29 : Ref sig .tc := ⟨.hbm, 207, rfl⟩
abbrev main_v158 : Ref sig .tc := ⟨.hbm, 208, rfl⟩
abbrev main_v159 : Ref sig .tc := ⟨.hbm, 209, rfl⟩
abbrev main_c_30 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩

abbrev nD : Nat := 1
abbrev τ : Topo := Topo.v7x

variable {F : FTy → Type} [FloatOps F]
-- ==== Proof.RefLine.lean ====
/- The reference's operations, in order, as one list read off its `main`; its run over that list; and the list cut
   into its stretches: one per layer, then the decoding. -/
module

public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead
public import Idealize.ShloMosaic.Adequacy

@[expose] public section

noncomputable section

namespace Cert.ReferenceIdeal.Line

open Idealize.ShloMosaic Idealize.SL.Sem Cert.ReferenceIdeal Cert.ReferenceIdeal.Gen

/-- A list of operations, kept with the fact that `main` is that list. -/
def keep {ops : List (HloOp τ sig (Elt Ideal))} (h : ∀ d : Dev nD, StableHlo.IsSeq (main (F := Ideal) d) ops) :
    { ops : List (HloOp τ sig (Elt Ideal)) // ∀ d : Dev nD, StableHlo.IsSeq (main (F := Ideal) d) ops } := ⟨ops, h⟩

set_option maxRecDepth 100000 in
/-- The reference's line of operations, with the fact that `main` is that line. -/
def line : { ops : List (HloOp τ sig (Elt Ideal)) // ∀ d : Dev nD, StableHlo.IsSeq (main (F := Ideal) d) ops } := by
  apply keep
  hlo_seq

/-- The operations `i ≤ n < j` of the line. -/
def stretch (i j : ℕ) : List (HloOp τ sig (Elt Ideal)) := (line.1.take j).drop i

/-- The reference runs, and leaves each buffer at what the line computes from the launch contents. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      ∀ (d : Dev nD) (b : Ref sig .tc), r.2.mem ((d.tc : Thread nD τ).loc b)
        = StableHlo.after line.1 (StableHlo.launchContents m d) (Proc.devRef .tc b)) :=
  StableHlo.run_hlo _ _ line.2 (by decide) (by decide) (by unfold line keep; simp)
    (by unfold line keep; intro _ h; (repeat (cases h with | head => rfl | tail _ h => ?_)); exact nomatch h) _ _

end Cert.ReferenceIdeal.Line

end
-- ==== Proof.RefReads.lean ====
/- What each stretch of the reference's line computes, as functions of arrays: one layer's codes and residual, and the
   decoding; and what the whole line leaves in the two results. -/
module

public import proofs.«01_k».proof.Proof.RefLine

@[expose] public section

noncomputable section

namespace Cert.ReferenceIdeal.Line

open Idealize.ShloMosaic Idealize.SL.Sem Cert.ReferenceIdeal Cert.ReferenceIdeal.Gen

/-- The distance of each row of `x` to each row of `C`, as the reference spells it. -/
def dist (x : FVec Ideal S16384x256 .f32) (C : FVec Ideal S1024x256 .f32) : FVec Ideal S16384x1024 .f32 :=
  Host.sqrt (maximumf
    (addf
      (subf
        (broadcastInDim S16384x1024 ![0, 1] bcast_S16384x1_S16384x1024_0_1
          (broadcastInDim S16384x1 ![0] bcast_S16384_S16384x1_0
            (Host.reduceAdd (mulf x x) (constant S_ .f32 0x00000000#32) reducesTo_S16384x256_S16384_d1 h_S_)))
        (mulf (broadcastInDim S16384x1024 ![] bcast_S_S16384x1024 (constant S_ .f32 0x40000000#32))
          (Host.dotGeneral dot_S16384x256_S256x1024_S16384x1024_1_0_0_1_n_n none x
            (transpose S256x1024 [1, 0] C transposes_S1024x256_S256x1024_1_0))))
      (broadcastInDim S16384x1024 ![0, 1] bcast_S1x1024_S16384x1024_0_1
        (broadcastInDim S1x1024 ![1] bcast_S1024_S1x1024_1
          (Host.reduceAdd (mulf C C) (constant S_ .f32 0x00000000#32) reducesTo_S1024x256_S1024_d1 h_S_))))
    (broadcastInDim S16384x1024 ![] bcast_S_S16384x1024 (constant S_ .f32 0x00000000#32)))

/-- The column of each row's least distance, the first of equal ones. -/
def codes (x : FVec Ideal S16384x256 .f32) (C : FVec Ideal S1024x256 .f32) : IVec S16384 32 := fun j =>
  (Host.argReduce reducer_argmin_f32_i32 (dist x C) (iotaInDim S16384x1024 32 1) (constant S_ .f32 0x7F800000#32)
    (constantI S_ 32 0#32) reducesTo_S16384x1024_S16384_d1 h_S_ j).2

/-- The rows of `C` that `k` names, a negative name counted from the end. -/
def rows (C : FVec Ideal S1024x256 .f32) (k : IVec S16384 32) : FVec Ideal S16384x256 .f32 :=
  Host.gather gather_S1024x256_S16384x1_S16384x256_1_0_n_n_0_1_1256 C
    (broadcastInDim S16384x1 ![0] bcast_S16384_S16384x1_0
      (select (cmpi .slt k (broadcastInDim S16384 ![] bcast_S_S16384 (constantI S_ 32 0#32)))
        (addi k (broadcastInDim S16384 ![] bcast_S_S16384 (constantI S_ 32 1024#32))) k))

/-- What a layer leaves for the next one. -/
def rest (x : FVec Ideal S16384x256 .f32) (C : FVec Ideal S1024x256 .f32) : FVec Ideal S16384x256 .f32 :=
  subf x (rows C (codes x C))

/-- One codebook of the four: the slice that starts at `o`, as a matrix. -/
def book (B : FVec Ideal S4x1024x256 .f32) (o : Fin 3 → ℕ) (h : S4x1024x256.Slices o S1x1024x256) :
    FVec Ideal S1024x256 .f32 :=
  shapeCast S1024x256 (extractStridedSlice S1x1024x256 o B h) shapeCasts_S1x1024x256_S1024x256

/-- The codebook of layer `l`. -/
def bookOf (B : FVec Ideal S4x1024x256 .f32) : Fin 4 → FVec Ideal S1024x256 .f32
  | 0 => book B ![0, 0, 0] slices_S4x1024x256_S1x1024x256_0_0_0
  | 1 => book B ![1, 0, 0] slices_S4x1024x256_S1x1024x256_1_0_0
  | 2 => book B ![2, 0, 0] slices_S4x1024x256_S1x1024x256_2_0_0
  | 3 => book B ![3, 0, 0] slices_S4x1024x256_S1x1024x256_3_0_0

/-- The four layers' codes side by side. -/
def stacked (k0 k1 k2 k3 : IVec S16384 32) : IVec S16384x4 32 :=
  concatenate S16384x4 1
    [⟨S16384x1, broadcastInDim S16384x1 ![0] bcast_S16384_S16384x1_0 k0⟩,
      ⟨S16384x1, broadcastInDim S16384x1 ![0] bcast_S16384_S16384x1_0 k1⟩,
      ⟨S16384x1, broadcastInDim S16384x1 ![0] bcast_S16384_S16384x1_0 k2⟩,
      ⟨S16384x1, broadcastInDim S16384x1 ![0] bcast_S16384_S16384x1_0 k3⟩]
    concatenates_S16384x1_S16384x1_S16384x1_S16384x1_S16384x4_d1

/-- One column of the codes, as a vector. -/
def column (K : IVec S16384x4 32) (o : Fin 2 → ℕ) (h : S16384x4.Slices o S16384x1) : IVec S16384 32 :=
  shapeCast S16384 (extractStridedSlice S16384x1 o K h) shapeCasts_S16384x1_S16384

/-- The sum of the rows that the codes name, one per layer, from zero. -/
def decoded (B : FVec Ideal S4x1024x256 .f32) (K : IVec S16384x4 32) : FVec Ideal S16384x256 .f32 :=
  addf (addf (addf (addf
    (broadcastInDim S16384x256 ![] bcast_S_S16384x256 (constant S_ .f32 0x00000000#32))
    (rows (bookOf B 0) (column K ![0, 0] slices_S16384x4_S16384x1_0_0)))
    (rows (bookOf B 1) (column K ![0, 1] slices_S16384x4_S16384x1_0_1)))
    (rows (bookOf B 2) (column K ![0, 2] slices_S16384x4_S16384x1_0_2)))
    (rows (bookOf B 3) (column K ![0, 3] slices_S16384x4_S16384x1_0_3))

set_option maxRecDepth 100000 in
/-- Layer 0: its codes, its residual, and what it leaves alone. -/
theorem layer0 (V : Valuation τ sig (Elt Ideal)) :
    StableHlo.after (stretch 0 38) V (Proc.devRef .tc main_v19) = codes (V (Proc.devRef .tc main_arg0)) (bookOf (V (Proc.devRef .tc main_arg1)) 0)
      ∧ StableHlo.after (stretch 0 38) V (Proc.devRef .tc main_v27) = rest (V (Proc.devRef .tc main_arg0)) (bookOf (V (Proc.devRef .tc main_arg1)) 0)
      ∧ StableHlo.after (stretch 0 38) V (Proc.devRef .tc main_arg0) = V (Proc.devRef .tc main_arg0)
      ∧ StableHlo.after (stretch 0 38) V (Proc.devRef .tc main_arg1) = V (Proc.devRef .tc main_arg1) := by
  unfold stretch line keep
  simp only [List.take_succ_cons, List.take_zero, List.drop_succ_cons, List.drop_zero]
  refine ⟨?_, ?_, ?_, ?_⟩ <;> after_results_simp <;> rfl

set_option maxRecDepth 100000 in
/-- Layer 1: its codes, its residual, and what it leaves alone. -/
theorem layer1 (V : Valuation τ sig (Elt Ideal)) :
    StableHlo.after (stretch 38 76) V (Proc.devRef .tc main_v47) = codes (V (Proc.devRef .tc main_v27)) (bookOf (V (Proc.devRef .tc main_arg1)) 1)
      ∧ StableHlo.after (stretch 38 76) V (Proc.devRef .tc main_v55) = rest (V (Proc.devRef .tc main_v27)) (bookOf (V (Proc.devRef .tc main_arg1)) 1)
      ∧ StableHlo.after (stretch 38 76) V (Proc.devRef .tc main_arg0) = V (Proc.devRef .tc main_arg0)
      ∧ StableHlo.after (stretch 38 76) V (Proc.devRef .tc main_arg1) = V (Proc.devRef .tc main_arg1)
      ∧ StableHlo.after (stretch 38 76) V (Proc.devRef .tc main_v19) = V (Proc.devRef .tc main_v19) := by
  unfold stretch line keep
  simp only [List.take_succ_cons, List.take_zero, List.drop_succ_cons, List.drop_zero]
  refine ⟨?_, ?_, ?_, ?_, ?_⟩ <;> after_results_simp <;> rfl

set_option maxRecDepth 100000 in
/-- Layer 2: its codes, its residual, and what it leaves alone. -/
theorem layer2 (V : Valuation τ sig (Elt Ideal)) :
    StableHlo.after (stretch 76 114) V (Proc.devRef .tc main_v75) = codes (V (Proc.devRef .tc main_v55)) (bookOf (V (Proc.devRef .tc main_arg1)) 2)
      ∧ StableHlo.after (stretch 76 114) V (Proc.devRef .tc main_v83) = rest (V (Proc.devRef .tc main_v55)) (bookOf (V (Proc.devRef .tc main_arg1)) 2)
      ∧ StableHlo.after (stretch 76 114) V (Proc.devRef .tc main_arg0) = V (Proc.devRef .tc main_arg0)
      ∧ StableHlo.after (stretch 76 114) V (Proc.devRef .tc main_arg1) = V (Proc.devRef .tc main_arg1)
      ∧ StableHlo.after (stretch 76 114) V (Proc.devRef .tc main_v19) = V (Proc.devRef .tc main_v19)
      ∧ StableHlo.after (stretch 76 114) V (Proc.devRef .tc main_v47) = V (Proc.devRef .tc main_v47) := by
  unfold stretch line keep
  simp only [List.take_succ_cons, List.take_zero, List.drop_succ_cons, List.drop_zero]
  refine ⟨?_, ?_, ?_, ?_, ?_, ?_⟩ <;> after_results_simp <;> rfl

set_option maxRecDepth 100000 in
/-- Layer 3: its codes, its residual, and what it leaves alone. -/
theorem layer3 (V : Valuation τ sig (Elt Ideal)) :
    StableHlo.after (stretch 114 152) V (Proc.devRef .tc main_v103) = codes (V (Proc.devRef .tc main_v83)) (bookOf (V (Proc.devRef .tc main_arg1)) 3)
      ∧ StableHlo.after (stretch 114 152) V (Proc.devRef .tc main_v111) = rest (V (Proc.devRef .tc main_v83)) (bookOf (V (Proc.devRef .tc main_arg1)) 3)
      ∧ StableHlo.after (stretch 114 152) V (Proc.devRef .tc main_arg0) = V (Proc.devRef .tc main_arg0)
      ∧ StableHlo.after (stretch 114 152) V (Proc.devRef .tc main_arg1) = V (Proc.devRef .tc main_arg1)
      ∧ StableHlo.after (stretch 114 152) V (Proc.devRef .tc main_v19) = V (Proc.devRef .tc main_v19)
      ∧ StableHlo.after (stretch 114 152) V (Proc.devRef .tc main_v47) = V (Proc.devRef .tc main_v47)
      ∧ StableHlo.after (stretch 114 152) V (Proc.devRef .tc main_v75) = V (Proc.devRef .tc main_v75) := by
  unfold stretch line keep
  simp only [List.take_succ_cons, List.take_zero, List.drop_succ_cons, List.drop_zero]
  refine ⟨?_, ?_, ?_, ?_, ?_, ?_, ?_⟩ <;> after_results_simp <;> rfl

set_option maxRecDepth 100000 in
/-- The last stretch: the codes side by side, and the decoding of them. -/
theorem tail (V : Valuation τ sig (Elt Ideal)) :
    StableHlo.after (stretch 152 215) V (Proc.devRef .tc main_v116)
        = stacked (V (Proc.devRef .tc main_v19)) (V (Proc.devRef .tc main_v47)) (V (Proc.devRef .tc main_v75)) (V (Proc.devRef .tc main_v103))
      ∧ StableHlo.after (stretch 152 215) V (Proc.devRef .tc main_v165)
        = decoded (V (Proc.devRef .tc main_arg1)) (stacked (V (Proc.devRef .tc main_v19)) (V (Proc.devRef .tc main_v47)) (V (Proc.devRef .tc main_v75)) (V (Proc.devRef .tc main_v103)))
      ∧ StableHlo.after (stretch 152 215) V (Proc.devRef .tc main_arg0) = V (Proc.devRef .tc main_arg0)
      ∧ StableHlo.after (stretch 152 215) V (Proc.devRef .tc main_arg1) = V (Proc.devRef .tc main_arg1) := by
  unfold stretch line keep
  simp only [List.take_succ_cons, List.take_zero, List.drop_succ_cons, List.drop_zero]
  refine ⟨?_, ?_, ?_, ?_⟩ <;> after_results_simp <;> rfl

set_option maxRecDepth 100000 in
/-- The line is its stretches, one after the other. -/
theorem line_cut : line.1 = stretch 0 38 ++ (stretch 38 76 ++ (stretch 76 114 ++ (stretch 114 152 ++ stretch 152 215))) := by
  unfold stretch line keep
  simp only [List.take_succ_cons, List.take_zero, List.drop_succ_cons, List.drop_zero, List.cons_append, List.nil_append]

/-- What is left of `x` after the first `n` layers. -/
def left (x : FVec Ideal S16384x256 .f32) (B : FVec Ideal S4x1024x256 .f32) : ℕ → FVec Ideal S16384x256 .f32
  | 0 => x
  | n + 1 => rest (left x B n) (bookOf B (Fin.ofNat 4 n))

/-- The codes of layer `l`. -/
def layerCodes (x : FVec Ideal S16384x256 .f32) (B : FVec Ideal S4x1024x256 .f32) (l : Fin 4) : IVec S16384 32 :=
  codes (left x B l) (bookOf B l)

/-- The reference's first result. -/
def outCodes (x : FVec Ideal S16384x256 .f32) (B : FVec Ideal S4x1024x256 .f32) : IVec S16384x4 32 :=
  stacked (layerCodes x B 0) (layerCodes x B 1) (layerCodes x B 2) (layerCodes x B 3)

/-- What the whole line leaves at the results and at the arguments. -/
theorem whole (V : Valuation τ sig (Elt Ideal)) :
    StableHlo.after line.1 V (Proc.devRef .tc main_v116)
        = outCodes (V (Proc.devRef .tc main_arg0)) (V (Proc.devRef .tc main_arg1))
      ∧ StableHlo.after line.1 V (Proc.devRef .tc main_v165)
        = decoded (V (Proc.devRef .tc main_arg1)) (outCodes (V (Proc.devRef .tc main_arg0)) (V (Proc.devRef .tc main_arg1)))
      ∧ StableHlo.after line.1 V (Proc.devRef .tc main_arg0) = V (Proc.devRef .tc main_arg0)
      ∧ StableHlo.after line.1 V (Proc.devRef .tc main_arg1) = V (Proc.devRef .tc main_arg1) := by
  have happ : ∀ (l₁ l₂ : List (HloOp τ sig (Elt Ideal))) W,
      StableHlo.after (l₁ ++ l₂) W = StableHlo.after l₂ (StableHlo.after l₁ W) := fun l₁ => by
    induction l₁ with
    | nil => intros; rfl
    | cons op l ih => intro l₂ W; exact ih l₂ _
  rw [line_cut, happ, happ, happ, happ]
  set V1 := StableHlo.after (stretch 0 38) V with hV1
  set V2 := StableHlo.after (stretch 38 76) V1 with hV2
  set V3 := StableHlo.after (stretch 76 114) V2 with hV3
  set V4 := StableHlo.after (stretch 114 152) V3 with hV4
  obtain ⟨a1, a2, a3, a4⟩ := layer0 V
  obtain ⟨b1, b2, b3, b4, b5⟩ := layer1 V1
  obtain ⟨c1, c2, c3, c4, c5, c6⟩ := layer2 V2
  obtain ⟨d1, d2, d3, d4, d5, d6, d7⟩ := layer3 V3
  obtain ⟨e1, e2, e3, e4⟩ := tail V4
  rw [← hV1] at a1 a2 a3 a4
  rw [← hV2] at b1 b2 b3 b4 b5
  rw [← hV3] at c1 c2 c3 c4 c5 c6
  rw [← hV4] at d1 d2 d3 d4 d5 d6 d7
  rw [e1, e2, e3, e4, d1, d3, d4, d5, d6, d7, c1, c2, c3, c4, c5, c6, b1, b2, b3, b4, b5, a1, a2, a3, a4]
  exact ⟨rfl, rfl, rfl, rfl⟩

/-- The reference runs, leaves its arguments, and puts every counter back at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m g) fun r h =>
    ⟨fun c => ⟨(h c main_arg0).trans (whole _).2.2.1, (h c main_arg1).trans (whole _).2.2.2⟩,
      sem_eq_zero_of_no_sems (by decide) r.2⟩

/-- The reference's run, with its results. -/
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v116)
          = outCodes (m ((c.tc : Thread nD τ).loc main_arg0)) (m ((c.tc : Thread nD τ).loc main_arg1))
      ∧ r.2.mem ((c.tc : Thread nD τ).loc main_v165)
          = decoded (m ((c.tc : Thread nD τ).loc main_arg1))
              (outCodes (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (run m g) fun r h c =>
    ⟨(h c main_v116).trans (whole _).1, (h c main_v165).trans (whole _).2.1,
      (h c main_arg0).trans (whole _).2.2.1, (h c main_arg1).trans (whole _).2.2.2⟩

end Cert.ReferenceIdeal.Line

end
-- ==== Proof.Nearest.lean ====
/- The first index at which a finite family of reals is least, and quantisation in layers by the nearest row. -/
module

public import Mathlib.Analysis.SpecialFunctions.Pow.NNReal
public import Mathlib.Algebra.BigOperators.Fin

@[expose] public section

noncomputable section

namespace Cert.Nearest

/-- `i` is the first index at which `f` is least. -/
def IsFirst {α : Type} [LE α] {n : ℕ} (f : Fin n → α) (i : Fin n) : Prop :=
  (∀ k, f i ≤ f k) ∧ ∀ k, (∀ k', f k ≤ f k') → i ≤ k

theorem exists_isFirst {α : Type} [LinearOrder α] {n : ℕ} [NeZero n] (f : Fin n → α) : ∃ i, IsFirst f i := by
  classical
  have hne : (Finset.univ.filter fun i => ∀ k, f i ≤ f k).Nonempty := by
    obtain ⟨i, -, hi⟩ := Finset.exists_min_image (Finset.univ : Finset (Fin n)) f ⟨0, Finset.mem_univ _⟩
    exact ⟨i, Finset.mem_filter.mpr ⟨Finset.mem_univ _, fun k => hi k (Finset.mem_univ _)⟩⟩
  refine ⟨Finset.min' _ hne, (Finset.mem_filter.mp (Finset.min'_mem _ hne)).2, fun k hk => ?_⟩
  exact Finset.min'_le _ _ (Finset.mem_filter.mpr ⟨Finset.mem_univ _, hk⟩)

theorem IsFirst.unique {α : Type} [LE α] {n : ℕ} {f : Fin n → α} {i j : Fin n} (hi : IsFirst f i) (hj : IsFirst f j) :
    i = j :=
  le_antisymm (hi.2 j hj.1) (hj.2 i hi.1)

/-- Two families in the same order have the same first least index. -/
theorem IsFirst.of_order {α β : Type} [LE α] [LE β] {n : ℕ} {f : Fin n → α} {g : Fin n → β} {i : Fin n}
    (h : ∀ k k', f k ≤ f k' ↔ g k ≤ g k') (hi : IsFirst f i) : IsFirst g i :=
  ⟨fun k => (h i k).mp (hi.1 k), fun k hk => hi.2 k fun k' => (h k k').mpr (hk k')⟩

/-- The first index at which `f` is least. -/
def first (f : Fin 1024 → ℝ) : Fin 1024 := (exists_isFirst f).choose

theorem first_spec (f : Fin 1024 → ℝ) : IsFirst f (first f) := (exists_isFirst f).choose_spec

/-- The square of a row. -/
def sqn (x : Fin 256 → ℝ) : ℝ := ∑ j, x j * x j

/-- The product of two rows. -/
def dot (x c : Fin 256 → ℝ) : ℝ := ∑ j, x j * c j

/-- The squared distance of `x` to row `k` of `c`, expanded. -/
def expand (x : Fin 256 → ℝ) (c : Fin 1024 → Fin 256 → ℝ) (k : Fin 1024) : ℝ := sqn x - 2 * dot x (c k) + sqn (c k)

/-- The expansion is a sum of squares. -/
theorem expand_eq (x : Fin 256 → ℝ) (c : Fin 1024 → Fin 256 → ℝ) (k : Fin 1024) :
    expand x c k = ∑ j, (x j - c k j) ^ 2 := by
  unfold expand sqn dot
  rw [Finset.mul_sum, ← Finset.sum_sub_distrib, ← Finset.sum_add_distrib]
  exact Finset.sum_congr rfl fun j _ => by ring

theorem expand_nonneg (x : Fin 256 → ℝ) (c : Fin 1024 → Fin 256 → ℝ) (k : Fin 1024) : 0 ≤ expand x c k := by
  rw [expand_eq]; exact Finset.sum_nonneg fun j _ => sq_nonneg _

/-- The row of `c` nearest to `x`, the first of equally near ones. -/
def nearest (x : Fin 256 → ℝ) (c : Fin 1024 → Fin 256 → ℝ) : Fin 1024 := first (expand x c)

/-- A family that differs from the squared distance by one constant has the same first least index. -/
theorem nearest_of_shift {x : Fin 256 → ℝ} {c : Fin 1024 → Fin 256 → ℝ} {f : Fin 1024 → ℝ}
    (h : ∀ k, f k = dot x (c k) * (-2) + sqn (c k)) : IsFirst f (nearest x c) :=
  (first_spec (expand x c)).of_order fun k k' => by
    rw [h, h]; unfold expand; constructor <;> intro h' <;> linarith

/-- The square root of the squared distance has the same first least index. -/
theorem nearest_of_sqrt {x : Fin 256 → ℝ} {c : Fin 1024 → Fin 256 → ℝ} {f : Fin 1024 → ℝ}
    (h : ∀ k, f k = Real.sqrt (max (expand x c k) 0)) : IsFirst f (nearest x c) :=
  (first_spec (expand x c)).of_order fun k k' => by
    rw [h, h, max_eq_left (expand_nonneg x c k), max_eq_left (expand_nonneg x c k'),
      Real.sqrt_le_sqrt_iff (expand_nonneg x c k')]

/-- What is left of `x` after `n` layers, each of which subtracts the nearest row of its codebook. -/
def left (x : Fin 256 → ℝ) (C : Fin 4 → Fin 1024 → Fin 256 → ℝ) : ℕ → Fin 256 → ℝ
  | 0 => x
  | n + 1 => fun j => left x C n j - C (Fin.ofNat 4 n) (nearest (left x C n) (C (Fin.ofNat 4 n))) j

/-- The code of layer `l`. -/
def code (x : Fin 256 → ℝ) (C : Fin 4 → Fin 1024 → Fin 256 → ℝ) (l : Fin 4) : Fin 1024 :=
  nearest (left x C l) (C l)

/-- The row that layer `l` subtracts. -/
def row (x : Fin 256 → ℝ) (C : Fin 4 → Fin 1024 → Fin 256 → ℝ) (l : Fin 4) : Fin 256 → ℝ := C l (code x C l)

theorem left_succ (x : Fin 256 → ℝ) (C : Fin 4 → Fin 1024 → Fin 256 → ℝ) (l : Fin 4) :
    left x C (l + 1) = fun j => left x C l j - row x C l j := by
  have : Fin.ofNat 4 l.val = l := Fin.ofNat_val_eq_self l
  rw [left]; unfold row code; rw [this]

/-- The rows subtracted, added up in the order of the layers, from zero. -/
def total (x : Fin 256 → ℝ) (C : Fin 4 → Fin 1024 → Fin 256 → ℝ) (j : Fin 256) : ℝ :=
  0 + row x C 0 j + row x C 1 j + row x C 2 j + row x C 3 j

end Cert.Nearest

end
-- ==== Proof.Reals.lean ====
/- Sums, least elements, conversions and constants of the extended reals, at reals. -/
module

public import Idealize.ShloMosaic.PureOps.Ideal
public import Idealize.ShloMosaic.PureOps.Ideal.Laws
public import proofs.«01_k».proof.Proof.Nearest

@[expose] public section

noncomputable section

namespace Cert.Reals

open Idealize.ShloMosaic Cert.Nearest

/-- A sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The least of a family, from a bound above it, is its value at a first least index. -/
theorem fold_min {n : ℕ} (b : EReal) (f : Fin n → EReal) (i : Fin n) (hi : ∀ k, f i ≤ f k) (hb : f i ≤ b) :
    Finset.fold min b f Finset.univ = f i :=
  le_antisymm ((Finset.fold_min_le (f i)).mpr (.inr ⟨i, Finset.mem_univ _, le_rfl⟩))
    ((Finset.le_fold_min (f i)).mpr ⟨hb, fun k _ => hi k⟩)

theorem ofBits_top : Ideal.ofBits .f32 0x7F800000#32 = ⊤ := by simp [Ideal.ofBits, Ideal.ieee]

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul, -EReal.coe_neg]; norm_num

theorem toInt_ofNat (k : ℕ) (hk : k < 2048) : (BitVec.ofNat 32 k).toInt = (k : ℤ) := by
  rw [BitVec.toInt_eq_toNat_of_lt] <;> simp [BitVec.toNat_ofNat] <;> omega

/-- A small natural number, as a word, converted to a float, is that number. -/
theorem sitofp_ofNat (k : ℕ) (hk : k < 2048) :
    FloatOps.sitofp (F := Ideal) .f32 (BitVec.ofNat 32 k) = (((k : ℕ) : ℝ) : EReal) := by
  show (((BitVec.ofNat 32 k).toInt : ℝ) : EReal) = _
  rw [toInt_ofNat k hk]; norm_cast

/-- and back. -/
theorem fptosi_nat (k : ℕ) (hk : k < 2048) : Ideal.fptosi 32 (((k : ℕ) : ℝ) : EReal) = BitVec.ofNat 32 k := by
  show BitVec.ofInt 32 (max (-(2 ^ (32 - 1) : ℕ)) (min ((2 ^ (32 - 1) : ℕ) - 1) (if (0 : ℝ) ≤ (k : ℝ) then ⌊(k : ℝ)⌋ else ⌈(k : ℝ)⌉))) = _
  rw [if_pos (Nat.cast_nonneg k), Int.floor_natCast, min_eq_right (by norm_num; omega), max_eq_right (by norm_num)]
  rfl

/-- A comparison's bit, widened and converted, is one or zero. -/
theorem sitofp_bit (p : Prop) [Decidable p] :
    FloatOps.sitofp (F := Ideal) .f32 (BitVec.setWidth 32 (BitVec.ofBool (decide p))) = ((if p then (1 : ℝ) else 0 : ℝ) : EReal) := by
  show (((BitVec.setWidth 32 (BitVec.ofBool (decide p))).toInt : ℝ) : EReal) = _
  by_cases h : p <;> simp [h]

/-- The number of the first least column, as the least number among the columns whose value is least: other columns
    count as 1024. -/
theorem fold_first (f : Fin 1024 → EReal) (i : Fin 1024) (hi : IsFirst f i) :
    Finset.fold min ⊤ (fun k : Fin 1024 => if f k = f i then (((k : ℕ) : ℝ) : EReal) else ((1024 : ℝ) : EReal)) Finset.univ
      = (((i : ℕ) : ℝ) : EReal) := by
  have h : (fun k : Fin 1024 => if f k = f i then (((k : ℕ) : ℝ) : EReal) else ((1024 : ℝ) : EReal)) i = (((i : ℕ) : ℝ) : EReal) :=
    if_pos rfl
  rw [← h]
  refine fold_min _ _ i (fun k => ?_) le_top
  rw [if_pos rfl]
  split
  · rename_i hk
    have : i ≤ k := hi.2 k fun k' => hk ▸ hi.1 k'
    exact EReal.coe_le_coe_iff.mpr (by exact_mod_cast this)
  · exact EReal.coe_le_coe_iff.mpr (by exact_mod_cast i.isLt.le)

end Cert.Reals

end
-- ==== Proof.RefValue.lean ====
/- What one layer of the reference computes on finite reals: its codes name the nearest rows, its rows are those rows. -/
module

public import proofs.«01_k».proof.Proof.RefReads
public import proofs.«01_k».proof.Proof.Reals
public import Idealize.ShloMosaic.Lib.Pointwise
public import Idealize.ShloMosaic.Lib.Routing.Ops

@[expose] public section

set_option maxRecDepth 16384

noncomputable section

namespace Cert.ReferenceIdeal.Line

open Idealize.ShloMosaic Cert.ReferenceIdeal Cert.ReferenceIdeal.Gen Cert.Nearest Cert.Reals

variable {x : FVec Ideal S16384x256 .f32} {C : FVec Ideal S1024x256 .f32} {r : Fin 16384 → Fin 256 → ℝ}
  {c : Fin 1024 → Fin 256 → ℝ}

/-- The distances are the square roots of the squared distances. -/
theorem dist_apply (hx : ∀ i j, x (ix2 i j) = (r i j : EReal)) (hC : ∀ k j, C (ix2 k j) = (c k j : EReal))
    (i : Fin 16384) (k : Fin 1024) : dist x C (ix2 i k) = (Real.sqrt (max (expand (r i) c k) 0) : EReal) := by
  unfold dist
  pointwise
  simp only [hx, hC, ofBits_two, ← EReal.coe_mul, ← coe_sum, ← EReal.coe_add, ← EReal.coe_sub, ← EReal.coe_zero]
  rw [← EReal.coe_strictMono.monotone.map_max, Ideal.sqrt_coe, if_neg (not_lt.mpr (le_max_right _ _))]
  rfl

/-- Pair `a` comes no later than pair `b`: a smaller value, or an equal value and no larger a number. -/
def Before (a b : EReal × BitVec 32) : Prop := a.1 < b.1 ∨ a.1 = b.1 ∧ a.2.toInt ≤ b.2.toInt

theorem before_refl (a : EReal × BitVec 32) : Before a a := .inr ⟨rfl, le_rfl⟩

theorem before_total (a b : EReal × BitVec 32) : Before a b ∨ Before b a := by
  unfold Before
  rcases lt_trichotomy a.1 b.1 with h | h | h
  · exact .inl (.inl h)
  · rcases le_total a.2.toInt b.2.toInt with h' | h'
    · exact .inl (.inr ⟨h, h'⟩)
    · exact .inr (.inr ⟨h.symm, h'⟩)
  · exact .inr (.inl h)

/-- The reducer keeps its left argument where that comes no later, -/
theorem reducer_left {a b : EReal × BitVec 32} (h : Before a b) : reducer_argmin_f32_i32 (F := Ideal) a b = a := by
  obtain ⟨a1, a2⟩ := a
  obtain ⟨b1, b2⟩ := b
  unfold Before at h
  dsimp only at h
  unfold reducer_argmin_f32_i32
  simp only [Ideal.cmpf_def, Ideal.cmp]
  rcases h with h | ⟨rfl, h⟩
  · have hor : ∀ X : BitVec 1, 1#1 ||| X = 1#1 := by decide
    simp [h, h.ne, IntOp.ori, Scalar.select, hor]
  · rcases h.lt_or_eq with h' | h'
    · simp [IntOp.ori, IntOp.andi, IntOp.cmpi, Scalar.select, BitVec.slt, h']
    · obtain rfl := BitVec.eq_of_toInt_eq h'
      simp [IntOp.ori, IntOp.andi, IntOp.cmpi, Scalar.select]

/-- and its right argument where that comes no later. -/
theorem reducer_right {a b : EReal × BitVec 32} (h : Before b a) : reducer_argmin_f32_i32 (F := Ideal) a b = b := by
  obtain ⟨a1, a2⟩ := a
  obtain ⟨b1, b2⟩ := b
  unfold Before at h
  dsimp only at h
  unfold reducer_argmin_f32_i32
  simp only [Ideal.cmpf_def, Ideal.cmp]
  rcases h with h | ⟨rfl, h⟩
  · simp [h.not_gt, h.ne', IntOp.ori, IntOp.andi, Scalar.select]
  · have : ¬ a2.toInt < b2.toInt := not_lt.mpr h
    simp [IntOp.ori, IntOp.andi, IntOp.cmpi, Scalar.select, BitVec.slt, this]

/-- A fold of the reducer is the pair that comes no later than any of those folded. -/
theorem foldl_reducer (p : EReal × BitVec 32) (L : List (EReal × BitVec 32)) (a : EReal × BitVec 32) (hp : p ∈ a :: L)
    (hb : ∀ q ∈ a :: L, Before p q) : L.foldl (reducer_argmin_f32_i32 (F := Ideal)) a = p := by
  induction L generalizing a with
  | nil => exact (List.mem_singleton.mp hp).symm
  | cons q L ih =>
    rw [List.foldl_cons]
    have hL (s : EReal × BitVec 32) (hs : s ∈ L) : Before p s := hb s (.tail _ (.tail _ hs))
    rcases List.mem_cons.mp hp with rfl | hp
    · rw [reducer_left (hb q (.tail _ (.head _)))]
      exact ih p (.head _) fun s hs => (List.mem_cons.mp hs).elim (fun e => e ▸ before_refl _) (hL s)
    · rcases List.mem_cons.mp hp with rfl | hp
      · rw [reducer_right (hb a (.head _))]
        exact ih p (.head _) fun s hs => (List.mem_cons.mp hs).elim (fun e => e ▸ before_refl _) (hL s)
      · rcases before_total a q with h | h
        · rw [reducer_left h]
          exact ih a (.tail _ hp) fun s hs => (List.mem_cons.mp hs).elim (fun e => e ▸ hb a (.head _)) (hL s)
        · rw [reducer_right h]
          exact ih q (.tail _ hp) fun s hs => (List.mem_cons.mp hs).elim (fun e => e ▸ hb q (.tail _ (.head _))) (hL s)

/-- The pairs folded at one index of the result are those at the indices that drop to it. -/
theorem mem_fiber {s t : Shape} {axes : List (Fin s.rank)} {α β : Type} (X : s.Idx → α) (Y : s.Idx → β)
    (h : s.ReducesTo axes t) (j : t.Idx) (p : α × β) :
    p ∈ Host.argReduceFiber X Y h j ↔ ∃ i, h.drop i = j ∧ (X i, Y i) = p := by
  unfold Host.argReduceFiber
  rw [List.mem_map]
  constructor
  · rintro ⟨n, hn, rfl⟩
    exact ⟨_, of_decide_eq_true (List.mem_filter.mp hn).2, rfl⟩
  · rintro ⟨i, hi, rfl⟩
    exact ⟨s.rowMajor i, List.mem_filter.mpr ⟨List.mem_finRange _, by simpa using hi⟩, by simp⟩

/-- An index drops to its row. -/
theorem drop_eq_iff (n : S16384x1024.Idx) (i : Fin 16384) :
    reducesTo_S16384x1024_S16384_d1.drop n = ix1 i ↔ ∃ k, n = ix2 i k := by
  constructor
  · intro hn
    have h0 := reducesTo_S16384x1024_S16384_d1.drop_apply_val_of_eq n 0 0
    rw [hn] at h0
    refine ⟨n 1, funext fun a => ?_⟩
    fin_cases a
    · exact Fin.ext h0.symm
    · rfl
  · rintro ⟨k, rfl⟩
    funext a
    fin_cases a
    exact Fin.ext (reducesTo_S16384x1024_S16384_d1.drop_apply_val_of_eq (ix2 i k) 0 0)

/-- Over a row of finite values, the fold from an infinite value is the first least value and its column's number. -/
theorem fold_row (d : S16384x1024.Idx → EReal) (y : S16384x1024.Idx → BitVec 32) (a : EReal × BitVec 32) (ha : a.1 = ⊤)
    (i : Fin 16384) (f : Fin 1024 → ℝ) (k : Fin 1024) (hf : ∀ k, d (ix2 i k) = (f k : EReal))
    (hy : ∀ k : Fin 1024, y (ix2 i k) = BitVec.ofNat 32 k) (hk : IsFirst f k) :
    (Host.argReduceFiber d y reducesTo_S16384x1024_S16384_d1 (ix1 i)).foldl (reducer_argmin_f32_i32 (F := Ideal)) a
      = ((f k : EReal), BitVec.ofNat 32 k) := by
  refine foldl_reducer _ _ _ (.tail _ ((mem_fiber _ _ _ _ _).mpr ⟨ix2 i k, (drop_eq_iff _ _).mpr ⟨k, rfl⟩, by rw [hf, hy]⟩))
    fun q hq => ?_
  rcases List.mem_cons.mp hq with rfl | hq
  · exact .inl (ha ▸ EReal.coe_lt_top _)
  · obtain ⟨n, hn, rfl⟩ := (mem_fiber _ _ _ _ _).mp hq
    obtain ⟨k', rfl⟩ := (drop_eq_iff _ _).mp hn
    rw [hf, hy]
    rcases (hk.1 k').lt_or_eq with h | h
    · exact .inl (EReal.coe_lt_coe_iff.mpr h)
    · refine .inr ⟨congrArg (fun z : ℝ => (z : EReal)) h, ?_⟩
      dsimp only
      rw [toInt_ofNat _ (by omega), toInt_ofNat _ (by omega)]
      exact_mod_cast hk.2 k' fun k'' => h ▸ hk.1 k''

/-- The first least column of a row of finite values. -/
theorem argmin_row (d : FVec Ideal S16384x1024 .f32) (i : Fin 16384) (f : Fin 1024 → ℝ) (k : Fin 1024)
    (hf : ∀ k, d (ix2 i k) = (f k : EReal)) (hk : IsFirst f k) :
    (Host.argReduce reducer_argmin_f32_i32 d (iotaInDim S16384x1024 32 1) (constant S_ .f32 0x7F800000#32)
      (constantI S_ 32 0#32) reducesTo_S16384x1024_S16384_d1 h_S_ (ix1 i)).2 = BitVec.ofNat 32 k := by
  rw [Ideal.argReduce_eq_reduce2, Host.reduce2_eq_foldl_fiber,
    fold_row d (iotaInDim S16384x1024 32 1) _ ofBits_top i f k hf (fun _ => rfl) hk]

/-- The codes as a reduction of the distances. -/
theorem codes_eq (x : FVec Ideal S16384x256 .f32) (C : FVec Ideal S1024x256 .f32) : codes x C = fun j =>
    (Host.argReduce reducer_argmin_f32_i32 (dist x C) (iotaInDim S16384x1024 32 1) (constant S_ .f32 0x7F800000#32)
      (constantI S_ 32 0#32) reducesTo_S16384x1024_S16384_d1 h_S_ j).2 := rfl

/-- The codes of finite distances name the first least column. -/
theorem codes_of_isFirst (i : Fin 16384) (f : Fin 1024 → ℝ) (k : Fin 1024) (hf : ∀ k, dist x C (ix2 i k) = (f k : EReal))
    (hk : IsFirst f k) : codes x C (ix1 i) = BitVec.ofNat 32 k := by
  rw [codes_eq]
  exact argmin_row (dist x C) i f k hf hk

/-- The codes name the nearest rows. -/
theorem codes_apply (hx : ∀ i j, x (ix2 i j) = (r i j : EReal)) (hC : ∀ k j, C (ix2 k j) = (c k j : EReal))
    (i : Fin 16384) : codes x C (ix1 i) = BitVec.ofNat 32 (nearest (r i) c) :=
  codes_of_isFirst i _ _ (dist_apply hx hC i) (nearest_of_sqrt fun _ => rfl)

/-- The rows that codes name. -/
theorem rows_apply {k : IVec S16384 32} (i : Fin 16384) (j : Fin 256) (n : Fin 1024) (hk : k (ix1 i) = BitVec.ofNat 32 n) :
    rows C k (ix2 i j) = C (ix2 n j) := by
  unfold rows
  rw [ix2_eq_valueIdx, ix2_eq_valueIdx]
  refine Routing.gather_row _ rfl rfl rfl rfl rfl C _ i j n ?_ (by norm_num)
  rw [← ix2_eq_valueIdx]
  pointwise
  rw [hk]
  have : (BitVec.ofNat 32 (n : ℕ)).slt 0#32 = false := by
    rw [BitVec.slt, toInt_ofNat _ (by omega)]; simp
  simp [IntOp.cmpi, this, Scalar.select]

end Cert.ReferenceIdeal.Line

end
-- ==== Proof.RefChain.lean ====
/- The reference's two results on finite reals: the codes of the four layers, and the sums of the rows they name. -/
module

public import proofs.«01_k».proof.Proof.RefValue

@[expose] public section

set_option maxRecDepth 16384

noncomputable section

namespace Cert.ReferenceIdeal.Line

open Idealize.ShloMosaic Cert.ReferenceIdeal Cert.ReferenceIdeal.Gen Cert.Nearest Cert.Reals

theorem bookOf_apply (B : FVec Ideal S4x1024x256 .f32) (l : Fin 4) (k : Fin 1024) (j : Fin 256) :
    bookOf B l (ix2 k j) = B (ix3 l k j) := by
  fin_cases l <;>
  · unfold bookOf book
    pointwise

/-- The codes side by side, in a row. -/
theorem stacked_apply (k : Fin 4 → IVec S16384 32) (i : Fin 16384) (l : Fin 4) :
    stacked (k 0) (k 1) (k 2) (k 3) (ix2 i l) = k l (ix1 i) := by
  fin_cases l <;>
  · unfold stacked
    pointwise

theorem column0_apply (K : IVec S16384x4 32) (i : Fin 16384) :
    column K ![0, 0] slices_S16384x4_S16384x1_0_0 (ix1 i) = K (ix2 i 0) := by
  unfold column
  pointwise

theorem column1_apply (K : IVec S16384x4 32) (i : Fin 16384) :
    column K ![0, 1] slices_S16384x4_S16384x1_0_1 (ix1 i) = K (ix2 i 1) := by
  unfold column
  pointwise

theorem column2_apply (K : IVec S16384x4 32) (i : Fin 16384) :
    column K ![0, 2] slices_S16384x4_S16384x1_0_2 (ix1 i) = K (ix2 i 2) := by
  unfold column
  pointwise

theorem column3_apply (K : IVec S16384x4 32) (i : Fin 16384) :
    column K ![0, 3] slices_S16384x4_S16384x1_0_3 (ix1 i) = K (ix2 i 3) := by
  unfold column
  pointwise

variable {x : FVec Ideal S16384x256 .f32} {B : FVec Ideal S4x1024x256 .f32} {r : Fin 16384 → Fin 256 → ℝ}
  {D : Fin 4 → Fin 1024 → Fin 256 → ℝ}

/-- After `n` layers each row is what is left of it. -/
theorem left_apply (hx : ∀ i j, x (ix2 i j) = (r i j : EReal)) (hB : ∀ l k j, B (ix3 l k j) = (D l k j : EReal)) (n : ℕ)
    (i : Fin 16384) (j : Fin 256) : left x B n (ix2 i j) = (Nearest.left (r i) D n j : EReal) := by
  induction n generalizing i j with
  | zero => exact hx i j
  | succ n ih =>
    have hb (k : Fin 1024) (j : Fin 256) : bookOf B (Fin.ofNat 4 n) (ix2 k j) = (D (Fin.ofNat 4 n) k j : EReal) :=
      (bookOf_apply B _ k j).trans (hB _ k j)
    rw [left, rest, subf, ih, rows_apply i j _ (codes_apply ih hb i), hb]
    exact (EReal.coe_sub _ _).symm

/-- The codes of layer `l`. -/
theorem layerCodes_apply (hx : ∀ i j, x (ix2 i j) = (r i j : EReal)) (hB : ∀ l k j, B (ix3 l k j) = (D l k j : EReal))
    (l : Fin 4) (i : Fin 16384) : layerCodes x B l (ix1 i) = BitVec.ofNat 32 (code (r i) D l) :=
  codes_apply (left_apply hx hB l) (fun k j => (bookOf_apply B l k j).trans (hB l k j)) i

/-- The first result. -/
theorem outCodes_apply (hx : ∀ i j, x (ix2 i j) = (r i j : EReal)) (hB : ∀ l k j, B (ix3 l k j) = (D l k j : EReal))
    (i : Fin 16384) (l : Fin 4) : outCodes x B (ix2 i l) = BitVec.ofNat 32 (code (r i) D l) :=
  (stacked_apply (layerCodes x B) i l).trans (layerCodes_apply hx hB l i)

/-- The second result. -/
theorem decoded_apply (hx : ∀ i j, x (ix2 i j) = (r i j : EReal)) (hB : ∀ l k j, B (ix3 l k j) = (D l k j : EReal))
    (i : Fin 16384) (j : Fin 256) : decoded B (outCodes x B) (ix2 i j) = (Nearest.total (r i) D j : EReal) := by
  have hK := outCodes_apply hx hB i
  generalize outCodes x B = K at hK ⊢
  rw [decoded, addf, addf, addf, addf, rows_apply i j _ ((column0_apply K i).trans (hK 0)),
    rows_apply i j _ ((column1_apply K i).trans (hK 1)), rows_apply i j _ ((column2_apply K i).trans (hK 2)),
    rows_apply i j _ ((column3_apply K i).trans (hK 3)), bookOf_apply, bookOf_apply, bookOf_apply, bookOf_apply, hB, hB, hB, hB]
  have hz : broadcastInDim S16384x256 ![] bcast_S_S16384x256 (constant (F := Ideal) S_ .f32 0x00000000#32) (ix2 i j)
      = ((0 : ℝ) : EReal) := Ideal.ofBits_zero_f32
  rw [hz]
  unfold Nearest.total row
  simp only [EReal.coe_add]
  rfl

end Cert.ReferenceIdeal.Line

end
-- ==== Proof.Block.lean ====
/- What the kernel's body computes on one half of a block: one layer's codes and rows, as functions of the half's
   residual and of the layer's tables; the layers one after the other; and the body's stores, spelt by them. -/
module

public import proofs.«01_k».proof.Proof.Gen.KernelIdeal.Value

@[expose] public section

noncomputable section

namespace Cert.KernelIdeal.Block

open Idealize.ShloMosaic Cert.KernelIdeal Cert.KernelIdeal.Gen

variable {F : FTy → Type} [FloatOps F]

/-- The column numbers, as floats. -/
def cols : FVec F S1024x1024 .f32 := sitofp .f32 (iota .tc S1024x1024 32 [1] iota_S1024x1024_d1_w32)

/-- The score of each row of `v` at each column: the product with the layer's scaled table, and the layer's norms. -/
def scores (v : FVec F S1024x256 .f32) (A : FVec F S1x256x1024 .f32) (B : FVec F S1x1024 .f32) :
    FVec F S1024x1024 .f32 :=
  addf
    (matmul dot_S1024x256_S256x1024_S1024x1024_1_0_0_1_n_n none v
      (shapeCast S256x1024 A shapeCasts_S1x256x1024_S256x1024) (constant S1024x1024 .f32 0x00000000#32))
    (broadcastTo S1024x1024 (shapeCast S1x1024 B shapeCasts_S1x1024_S1x1024) broadcasts_S1x1024_S1024x1024)

/-- The least entry of each row. -/
def least (s : FVec F S1024x1024 .f32) : FVec F S1024 .f32 :=
  multiReduction .minimumf [1] S1024 s 0x7F800000#32 reduces_S1024x1024_S1024 (.inl rfl) rfl

/-- A value per row, written along the row. -/
def along (a : FVec F S1024 .f32) : FVec F S1024x1024 .f32 :=
  broadcastTo S1024x1024 (shapeCast S1024x1 a shapeCasts_S1024_S1024x1) broadcasts_S1024x1_S1024x1024

/-- The least column number at which a row has its least score; other columns count as 1024. -/
def pick (s : FVec F S1024x1024 .f32) : FVec F S1024 .f32 :=
  least (select (cmpf .oeq s (along (least s))) cols (broadcast S1024x1024 (Scalar.ofBits .f32 0x44800000#32)))

/-- The column picked, in each row, as a column of integers. -/
def codes (v : FVec F S1024x256 .f32) (A : FVec F S1x256x1024 .f32) (B : FVec F S1x1024 .f32) : IVec S1024x1 32 :=
  fptosi 32 (shapeCast S1024x1 (pick (scores v A B)) shapeCasts_S1024_S1024x1)

/-- One where the column number is the picked one, zero elsewhere. -/
def mark (a : FVec F S1024 .f32) : FVec F S1024x1024 .bf16 :=
  truncf .bf16 (sitofp .f32 (extui 32 (cmpf .oeq cols (along a)) natLt_1_32)) bitsLt_bf16_f32

/-- The three parts of the picked row, side by side. -/
def parts (a : FVec F S1024 .f32) (Q : FVec F S1x1024x768 .bf16) : FVec F S1024x768 .f32 :=
  matmul dot_S1024x1024_S1024x768_S1024x768_1_0_0_1_n_n none (mark a)
    (shapeCast S1024x768 Q shapeCasts_S1x1024x768_S1024x768) (constant S1024x768 .f32 0x00000000#32)

/-- The sum of the three parts. -/
def joined (p : FVec F S1024x768 .f32) : FVec F S1024x256 .f32 :=
  addf
    (addf (extractStridedSlice S1024x256 ![0, 0] p slices_S1024x768_o0_0_S1024x256)
      (extractStridedSlice S1024x256 ![0, 256] p slices_S1024x768_o0_256_S1024x256))
    (extractStridedSlice S1024x256 ![0, 512] p slices_S1024x768_o0_512_S1024x256)

/-- The row picked for each row of `v`. -/
def picked (v : FVec F S1024x256 .f32) (A : FVec F S1x256x1024 .f32) (B : FVec F S1x1024 .f32)
    (Q : FVec F S1x1024x768 .bf16) : FVec F S1024x256 .f32 :=
  joined (parts (pick (scores v A B)) Q)

/-- The scaled table of layer `l`. -/
def tableT (x1 : Vec F S4x256x1024 .f32) : Fin 4 → Vec F S1x256x1024 .f32
  | 0 => View.ld x1 r0_2
  | 1 => View.ld x1 r0_7
  | 2 => View.ld x1 r0_12
  | 3 => View.ld x1 r0_17

/-- The norms of layer `l`. -/
def norms (x3 : Vec F S4x1024 .f32) : Fin 4 → Vec F S1x1024 .f32
  | 0 => View.ld x3 r0_3
  | 1 => View.ld x3 r0_8
  | 2 => View.ld x3 r0_13
  | 3 => View.ld x3 r0_18

/-- The three-part table of layer `l`. -/
def table3 (x2 : Vec F S4x1024x768 .bf16) : Fin 4 → Vec F S1x1024x768 .bf16
  | 0 => View.ld x2 r0_5
  | 1 => View.ld x2 r0_10
  | 2 => View.ld x2 r0_15
  | 3 => View.ld x2 r0_20

variable (v : FVec F S1024x256 .f32) (x1 : Vec F S4x256x1024 .f32) (x2 : FVec F S4x1024x768 .bf16)
  (x3 : Vec F S4x1024 .f32)

/-- What is left of `v` after `n` layers. -/
def left : ℕ → FVec F S1024x256 .f32
  | 0 => v
  | n + 1 => subf (left n)
      (picked (left n) (tableT x1 (Fin.ofNat 4 n)) (norms x3 (Fin.ofNat 4 n)) (table3 x2 (Fin.ofNat 4 n)))

/-- The codes of layer `l`. -/
def layerCodes (l : Fin 4) : IVec S1024x1 32 := codes (left v x1 x2 x3 l) (tableT x1 l) (norms x3 l)

/-- The sum of the rows picked in the first `n` layers, from zero. -/
def total : ℕ → FVec F S1024x256 .f32
  | 0 => broadcast S1024x256 (Scalar.ofBits .f32 0x00000000#32)
  | n + 1 => addf (total n) (picked (left v x1 x2 x3 n) (tableT x1 (Fin.ofNat 4 n)) (norms x3 (Fin.ofNat 4 n))
      (table3 x2 (Fin.ofNat 4 n)))

set_option maxRecDepth 16384 in
/-- The eight stores of codes are the four layers' codes of the two halves. -/
theorem out_codes (x0 : Vec F S2048x256 .f32) : out0_4 x0 x1 x2 x3 = View.canon
    [⟨r0_21, layerCodes (View.ld x0 r0_1) x1 x2 x3 3⟩, ⟨r0_19, layerCodes (View.ld x0 r0_0) x1 x2 x3 3⟩,
      ⟨r0_16, layerCodes (View.ld x0 r0_1) x1 x2 x3 2⟩, ⟨r0_14, layerCodes (View.ld x0 r0_0) x1 x2 x3 2⟩,
      ⟨r0_11, layerCodes (View.ld x0 r0_1) x1 x2 x3 1⟩, ⟨r0_9, layerCodes (View.ld x0 r0_0) x1 x2 x3 1⟩,
      ⟨r0_6, layerCodes (View.ld x0 r0_1) x1 x2 x3 0⟩, ⟨r0_4, layerCodes (View.ld x0 r0_0) x1 x2 x3 0⟩] := rfl

set_option maxRecDepth 16384 in
/-- The two stores of sums are the two halves' sums over the four layers. -/
theorem out_sums (x0 : Vec F S2048x256 .f32) : out0_5 x0 x1 x2 x3 = View.canon
    [⟨r0_1, total (View.ld x0 r0_1) x1 x2 x3 4⟩, ⟨r0_0, total (View.ld x0 r0_0) x1 x2 x3 4⟩] := rfl

end Cert.KernelIdeal.Block

end
-- ==== Proof.LayerValue.lean ====
/- What one layer of the kernel's body computes on finite reals: the picked column is the nearest row's. -/
module

public import proofs.«01_k».proof.Proof.Block
public import proofs.«01_k».proof.Proof.Reals
public import Idealize.ShloMosaic.Lib.Pointwise

@[expose] public section

set_option maxRecDepth 16384

noncomputable section

namespace Cert.KernelIdeal.Block

open Idealize.ShloMosaic Cert.KernelIdeal Cert.KernelIdeal.Gen Cert.Nearest Cert.Reals

theorem least_apply (s : FVec Ideal S1024x1024 .f32) (i : Fin 1024) :
    least s (ix1 i) = Finset.fold min ⊤ (fun k => s (ix2 i k)) Finset.univ := by
  unfold least
  pointwise
  rw [ofBits_top]

theorem along_apply (a : FVec Ideal S1024 .f32) (i k : Fin 1024) : along a (ix2 i k) = a (ix1 i) := by
  unfold along
  pointwise

theorem cols_apply (i k : Fin 1024) : cols (F := Ideal) (ix2 i k) = (((k : ℕ) : ℝ) : EReal) := by
  unfold cols
  pointwise
  exact sitofp_ofNat k (by omega)

/-- The picked column is the first at which the row is least. -/
theorem pick_apply (s : FVec Ideal S1024x1024 .f32) (i k : Fin 1024) (hk : IsFirst (fun k => s (ix2 i k)) k) :
    pick s (ix1 i) = (((k : ℕ) : ℝ) : EReal) := by
  unfold pick
  rw [least_apply]
  have h : least s (ix1 i) = s (ix2 i k) := by rw [least_apply]; exact fold_min _ _ k hk.1 le_top
  refine Eq.trans ?_ (fold_first (fun k => s (ix2 i k)) k hk)
  refine congrArg (fun f => Finset.fold min ⊤ f Finset.univ) (funext fun k' => ?_)
  pointwise [along_apply, cols_apply]
  rw [h, ofBits_1024]

/-- The mark is one at the picked column, zero elsewhere. -/
theorem mark_apply (a : FVec Ideal S1024 .f32) (i n k : Fin 1024) (ha : a (ix1 i) = (((n : ℕ) : ℝ) : EReal)) :
    mark a (ix2 i k) = ((if k = n then (1 : ℝ) else 0 : ℝ) : EReal) := by
  unfold mark
  pointwise [along_apply, cols_apply]
  rw [ha]
  refine (sitofp_bit _).trans ?_
  have : ((((k : ℕ) : ℝ) : EReal) = (((n : ℕ) : ℝ) : EReal)) ↔ k = n := by
    rw [EReal.coe_eq_coe_iff, Nat.cast_inj, Fin.val_inj]
  simp only [this]

/-- The parts of the picked row are that row of the three-part table. -/
theorem parts_apply (a : FVec Ideal S1024 .f32) (Q : FVec Ideal S1x1024x768 .bf16) (i n : Fin 1024) (j : Fin 768)
    (ha : a (ix1 i) = (((n : ℕ) : ℝ) : EReal)) (q : Fin 1024 → ℝ) (hQ : ∀ k, Q (ix3 0 k j) = (q k : EReal)) :
    parts a Q (ix2 i j) = (q n : EReal) := by
  unfold parts
  pointwise
  simp only [mark_apply a i n _ ha, hQ, ← EReal.coe_mul, ← coe_sum]
  congr 1
  rw [Finset.sum_eq_single n (fun k _ hk => by rw [if_neg hk, zero_mul]) (fun h => absurd (Finset.mem_univ _) h), if_pos rfl, one_mul]

/-- A three-part table whose parts are a table of reals, zeros and zeros. -/
def IsParts (Q : FVec Ideal S1x1024x768 .bf16) (c : Fin 1024 → Fin 256 → ℝ) : Prop :=
  ∀ (k : Fin 1024) (j : Fin 768), Q (ix3 0 k j) = ((if h : j.val < 256 then c k ⟨j, h⟩ else 0 : ℝ) : EReal)

variable {v : FVec Ideal S1024x256 .f32} {A : FVec Ideal S1x256x1024 .f32} {B : FVec Ideal S1x1024 .f32}
  {Q : FVec Ideal S1x1024x768 .bf16} {r : Fin 1024 → Fin 256 → ℝ} {c : Fin 1024 → Fin 256 → ℝ}

/-- The scores are, up to a constant for each row, the squared distances. -/
theorem scores_apply (hv : ∀ i j, v (ix2 i j) = (r i j : EReal)) (hA : ∀ j k, A (ix3 0 j k) = ((c k j * (-2) : ℝ) : EReal))
    (hB : ∀ k, B (ix2 0 k) = (sqn (c k) : EReal)) (i k : Fin 1024) :
    scores v A B (ix2 i k) = ((dot (r i) (c k) * (-2) + sqn (c k) : ℝ) : EReal) := by
  unfold scores
  pointwise
  simp only [hv, hA, hB, ← EReal.coe_mul, ← coe_sum, ← EReal.coe_add]
  unfold dot
  rw [Finset.sum_mul]
  simp only [mul_assoc]

theorem pick_scores (hv : ∀ i j, v (ix2 i j) = (r i j : EReal)) (hA : ∀ j k, A (ix3 0 j k) = ((c k j * (-2) : ℝ) : EReal))
    (hB : ∀ k, B (ix2 0 k) = (sqn (c k) : EReal)) (i : Fin 1024) :
    pick (scores v A B) (ix1 i) = (((nearest (r i) c : ℕ) : ℝ) : EReal) :=
  pick_apply _ _ _ ((nearest_of_shift (x := r i) (c := c) (fun _ => rfl)).of_order fun k k' => by
    rw [scores_apply hv hA hB, scores_apply hv hA hB, EReal.coe_le_coe_iff])

/-- The layer's codes name the nearest rows. -/
theorem codes_apply (hv : ∀ i j, v (ix2 i j) = (r i j : EReal)) (hA : ∀ j k, A (ix3 0 j k) = ((c k j * (-2) : ℝ) : EReal))
    (hB : ∀ k, B (ix2 0 k) = (sqn (c k) : EReal)) (i : Fin 1024) :
    codes v A B (ix2 i 0) = BitVec.ofNat 32 (nearest (r i) c) := by
  unfold codes
  pointwise
  rw [pick_scores hv hA hB]
  exact fptosi_nat _ (by omega)

/-- The layer's picked rows are the nearest rows. -/
theorem picked_apply (hv : ∀ i j, v (ix2 i j) = (r i j : EReal)) (hA : ∀ j k, A (ix3 0 j k) = ((c k j * (-2) : ℝ) : EReal))
    (hB : ∀ k, B (ix2 0 k) = (sqn (c k) : EReal)) (hQ : IsParts Q c) (i : Fin 1024) (j : Fin 256) :
    picked v A B Q (ix2 i j) = (c (nearest (r i) c) j : EReal) := by
  unfold picked joined
  pointwise
  have hp := pick_scores hv hA hB i
  rw [parts_apply _ _ i _ _ hp _ (fun k => hQ k _), parts_apply _ _ i _ _ hp _ (fun k => hQ k _),
    parts_apply _ _ i _ _ hp _ (fun k => hQ k _), ← EReal.coe_add, ← EReal.coe_add]
  refine congrArg (fun x : ℝ => (x : EReal)) ?_
  rw [dif_pos (show (j : ℕ) < 256 from j.isLt), dif_neg (by dsimp only; omega), dif_neg (by dsimp only; omega), add_zero, add_zero]

end Cert.KernelIdeal.Block

end
-- ==== Proof.LayerChain.lean ====
/- The four layers of the kernel's body on finite reals: the codes and the sums of a block of rows. -/
module

public import proofs.«01_k».proof.Proof.LayerValue
public import Idealize.ShloMosaic.Lib.Pipeline.ValueKit

@[expose] public section

set_option maxRecDepth 16384

noncomputable section

namespace Cert.KernelIdeal.Block

open Idealize.ShloMosaic Cert.KernelIdeal Cert.KernelIdeal.Gen Cert.Nearest Cert.Reals

theorem tableT_apply (x1 : Vec Ideal S4x256x1024 .f32) (l : Fin 4) (j : Fin 256) (k : Fin 1024) :
    tableT x1 l (ix3 0 j k) = x1 (ix3 l j k) := by
  unfold tableT
  fin_cases l <;> exact congrArg x1 (funext fun a => Fin.ext (by fin_cases a <;> simp [View.emb]))

theorem norms_apply (x3 : Vec Ideal S4x1024 .f32) (l : Fin 4) (k : Fin 1024) :
    norms x3 l (ix2 0 k) = x3 (ix2 l k) := by
  unfold norms
  fin_cases l <;> exact congrArg x3 (funext fun a => Fin.ext (by fin_cases a <;> simp [View.emb]))

theorem table3_apply (x2 : Vec Ideal S4x1024x768 .bf16) (l : Fin 4) (k : Fin 1024) (j : Fin 768) :
    table3 x2 l (ix3 0 k j) = x2 (ix3 l k j) := by
  unfold table3
  fin_cases l <;> exact congrArg x2 (funext fun a => Fin.ext (by fin_cases a <;> simp [View.emb]))

/-- The kernel's three tables hold the codebooks: scaled by minus two and transposed, in three parts, and as norms. -/
structure IsTables (x1 : Vec Ideal S4x256x1024 .f32) (x2 : Vec Ideal S4x1024x768 .bf16) (x3 : Vec Ideal S4x1024 .f32)
    (C : Fin 4 → Fin 1024 → Fin 256 → ℝ) : Prop where
  scaled : ∀ l j k, x1 (ix3 l j k) = ((C l k j * (-2) : ℝ) : EReal)
  parted : ∀ (l : Fin 4) (k : Fin 1024) (j : Fin 768),
    x2 (ix3 l k j) = ((if h : j.val < 256 then C l k ⟨j, h⟩ else 0 : ℝ) : EReal)
  normed : ∀ l k, x3 (ix2 l k) = (sqn (C l k) : EReal)

variable {v : FVec Ideal S1024x256 .f32} {x1 : Vec Ideal S4x256x1024 .f32} {x2 : Vec Ideal S4x1024x768 .bf16}
  {x3 : Vec Ideal S4x1024 .f32} {C : Fin 4 → Fin 1024 → Fin 256 → ℝ} {r : Fin 1024 → Fin 256 → ℝ}

theorem picked_layer {w : FVec Ideal S1024x256 .f32} {q : Fin 1024 → Fin 256 → ℝ} (T : IsTables x1 x2 x3 C)
    (hw : ∀ i j, w (ix2 i j) = (q i j : EReal)) (l : Fin 4) (i : Fin 1024) (j : Fin 256) :
    picked w (tableT x1 l) (norms x3 l) (table3 x2 l) (ix2 i j) = (C l (nearest (q i) (C l)) j : EReal) :=
  picked_apply hw (fun j k => (tableT_apply x1 l j k).trans (T.scaled l j k))
    (fun k => (norms_apply x3 l k).trans (T.normed l k)) (fun k j => (table3_apply x2 l k j).trans (T.parted l k j)) i j

/-- After `n` layers each row of the block is what is left of it. -/
theorem left_apply (T : IsTables x1 x2 x3 C) (hv : ∀ i j, v (ix2 i j) = (r i j : EReal)) (n : ℕ) (i : Fin 1024) (j : Fin 256) :
    left v x1 x2 x3 n (ix2 i j) = (Nearest.left (r i) C n j : EReal) := by
  induction n generalizing i j with
  | zero => exact hv i j
  | succ n ih =>
    rw [left, subf, ih, picked_layer T ih]
    exact (EReal.coe_sub _ _).symm

/-- The codes of layer `l`. -/
theorem layerCodes_apply (T : IsTables x1 x2 x3 C) (hv : ∀ i j, v (ix2 i j) = (r i j : EReal)) (l : Fin 4) (i : Fin 1024) :
    layerCodes v x1 x2 x3 l (ix2 i 0) = BitVec.ofNat 32 (code (r i) C l) :=
  codes_apply (left_apply T hv l) (fun j k => (tableT_apply x1 l j k).trans (T.scaled l j k))
    (fun k => (norms_apply x3 l k).trans (T.normed l k)) i

/-- The sum of the four layers' rows. -/
theorem total_apply (T : IsTables x1 x2 x3 C) (hv : ∀ i j, v (ix2 i j) = (r i j : EReal)) (i : Fin 1024) (j : Fin 256) :
    total v x1 x2 x3 4 (ix2 i j) = (Nearest.total (r i) C j : EReal) := by
  have h (n : ℕ) := picked_layer T (left_apply T hv n) (Fin.ofNat 4 n) i j
  have hz : total v x1 x2 x3 0 (ix2 i j) = ((0 : ℝ) : EReal) := Ideal.ofBits_zero_f32
  rw [total, addf, total, addf, total, addf, total, addf, h, h, h, h, hz]
  unfold Nearest.total row code
  simp only [EReal.coe_add]
  rfl

end Cert.KernelIdeal.Block

end
-- ==== Proof.Tables.lean ====
/- What the kernel's host operations compute from finite codebooks: the scaled tables, the three-part tables, the norms. -/
module

public import proofs.«01_k».proof.Proof.LayerChain
public import Idealize.ShloMosaic.Lib.Claim
public import Idealize.ShloMosaic.Lib.StableHlo.RunHlo
public import Idealize.ShloMosaic.Lib.StableHlo.RunRead

@[expose] public section

set_option maxRecDepth 16384

noncomputable section

namespace Cert.KernelIdeal.Block

open Idealize.ShloMosaic Idealize.ShloMosaic.TcCoe Cert.KernelIdeal Cert.KernelIdeal.Gen Cert.Nearest Cert.Reals

/-- The nearest bfloat16 of each word. -/
def nearest16 (x : FVec Ideal S4x1024x256 .f32) : FVec Ideal S4x1024x256 .f32 :=
  extf .f32 (id (truncf .bf16 x bitsLt_bf16_f32)) bitsLt_bf16_f32

/-- The same number everywhere. -/
abbrev all (b : BitVec 32) : FVec Ideal S4x1024x256 .f32 := broadcastInDim S4x1024x256 ![] bcast_S_S4x1024x256 (constant S_ .f32 b)

/-- At least half a bfloat16 step of each word, and no more than one. -/
def halfStep (x : FVec Ideal S4x1024x256 .f32) : FVec Ideal S4x1024x256 .f32 :=
  maximumf (mulf (Host.absf x) (all 0x3B800000#32)) (all 0x00008000#32)

/-- The upper part of each word, as the host computes it: the nearest bfloat16, or where that is too large the one before. -/
def upper (x : FVec Ideal S4x1024x256 .f32) : FVec Ideal S4x1024x256 .f32 :=
  select (cmpf .ole (Host.absf (nearest16 x)) (Host.absf x)) (nearest16 x)
    (nearest16 (select (cmpf .olt x (all 0x00000000#32)) (addf x (halfStep x)) (subf x (halfStep x))))

/-- With exact casts the upper part is all of it. -/
theorem upper_eq (x : FVec Ideal S4x1024x256 .f32) : upper x = x := by
  funext i
  have h : FloatOps.cmpf (F := Ideal) .ole (FloatOps.hostAbsf (x i)) (FloatOps.hostAbsf (x i)) = 1#1 := by
    simp [Ideal.cmpf_def, Ideal.cmp]
  show Scalar.select (FloatOps.cmpf (F := Ideal) .ole (FloatOps.hostAbsf (x i)) (FloatOps.hostAbsf (x i))) (x i) _ = x i
  rw [h]
  rfl

/-- An array rounded to bfloat16. -/
def rounded (x : FVec Ideal S4x1024x256 .f32) : FVec Ideal S4x1024x256 .bf16 := truncf .bf16 x bitsLt_bf16_f32

variable (m : (ℓ : Loc nD τ sig) → Buf (Elt Ideal) ℓ) (c : Dev nD)

/-- The codebooks, as launched. -/
abbrev books : FVec Ideal S4x1024x256 .f32 := m ((c : Thread nD τ).loc main_arg1)

theorem V_scaled : V m c main_v2 = mulf (transpose S4x256x1024 [0, 2, 1] (books m c) transposes_S4x1024x256_S4x256x1024_0_2_1)
    (broadcastInDim S4x256x1024 ![] bcast_S_S4x256x1024 (constant S_ .f32 0xC0000000#32)) := by
  entry_read
  rfl

theorem V_normed : V m c main_v4 = Host.reduceAdd (mulf (books m c) (books m c)) (constant S_ .f32 0x00000000#32)
    reducesTo_S4x1024x256_S4x1024_d2 h_S_ := by
  entry_read
  rfl

/-- The host operations `i ≤ n < j`. -/
def cut (i j : ℕ) : List (HloOp τ sig (Elt Ideal)) := (hostOps0.take j).drop i

set_option maxRecDepth 100000 in
/-- The first operations leave the upper part of the codebooks. -/
theorem cut_first (W : Valuation τ sig (Elt Ideal)) :
    StableHlo.after (cut 0 30) W (Proc.devRef .tc main_v24) = upper (W (Proc.devRef .tc main_arg1))
      ∧ StableHlo.after (cut 0 30) W (Proc.devRef .tc main_arg1) = W (Proc.devRef .tc main_arg1) := by
  unfold cut hostOps0
  simp only [List.take_succ_cons, List.take_zero, List.drop_succ_cons, List.drop_zero]
  refine ⟨?_, ?_⟩ <;> after_results_simp <;> rfl

set_option maxRecDepth 100000 in
/-- The next ones split what is left once more. -/
theorem cut_second (W : Valuation τ sig (Elt Ideal)) :
    StableHlo.after (cut 30 55) W (Proc.devRef .tc main_v24) = W (Proc.devRef .tc main_v24)
      ∧ StableHlo.after (cut 30 55) W (Proc.devRef .tc main_v45)
        = upper (subf (W (Proc.devRef .tc main_arg1)) (W (Proc.devRef .tc main_v24)))
      ∧ StableHlo.after (cut 30 55) W (Proc.devRef .tc main_v46)
        = subf (subf (W (Proc.devRef .tc main_arg1)) (W (Proc.devRef .tc main_v24)))
            (upper (subf (W (Proc.devRef .tc main_arg1)) (W (Proc.devRef .tc main_v24)))) := by
  unfold cut hostOps0
  simp only [List.take_succ_cons, List.take_zero, List.drop_succ_cons, List.drop_zero]
  refine ⟨?_, ?_, ?_⟩ <;> after_results_simp <;> rfl

set_option maxRecDepth 100000 in
/-- The next ones round the three parts. -/
theorem cut_third (W : Valuation τ sig (Elt Ideal)) :
    StableHlo.after (cut 55 81) W (Proc.devRef .tc main_v47) = rounded (W (Proc.devRef .tc main_v24))
      ∧ StableHlo.after (cut 55 81) W (Proc.devRef .tc main_v48) = rounded (W (Proc.devRef .tc main_v45))
      ∧ StableHlo.after (cut 55 81) W (Proc.devRef .tc main_v69)
        = rounded (upper (W (Proc.devRef .tc main_v46))) := by
  unfold cut hostOps0
  simp only [List.take_succ_cons, List.take_zero, List.drop_succ_cons, List.drop_zero]
  refine ⟨?_, ?_, ?_⟩ <;> after_results_simp <;> rfl

/-- The last one sets them side by side. -/
theorem cut_last (W : Valuation τ sig (Elt Ideal)) :
    StableHlo.after (cut 81 82) W (Proc.devRef .tc main_v70) =
      concatenate S4x1024x768 2 [⟨S4x1024x256, W (Proc.devRef .tc main_v47)⟩, ⟨S4x1024x256, W (Proc.devRef .tc main_v48)⟩,
        ⟨S4x1024x256, W (Proc.devRef .tc main_v69)⟩]
        concatenates_S4x1024x256_S4x1024x256_S4x1024x256_S4x1024x768_d2 := by
  unfold cut hostOps0
  simp only [List.take_succ_cons, List.take_zero, List.drop_succ_cons, List.drop_zero]
  after_results_simp
  rfl

/-- The host operations are their stretches, one after the other. -/
theorem hostOps0_cut : (hostOps0 : List (HloOp τ sig (Elt Ideal))) = cut 0 30 ++ (cut 30 55 ++ (cut 55 81 ++ cut 81 82)) := by
  unfold cut
  simp only [List.take_succ_cons, List.take_zero, List.drop_succ_cons, List.drop_zero, List.cons_append, List.nil_append]

theorem V_parted : V m c main_v70 =
    concatenate S4x1024x768 2 [⟨S4x1024x256, rounded (upper (books m c))⟩,
      ⟨S4x1024x256, rounded (upper (subf (books m c) (upper (books m c))))⟩,
      ⟨S4x1024x256, rounded (upper (subf (subf (books m c) (upper (books m c)))
        (upper (subf (books m c) (upper (books m c))))))⟩]
      concatenates_S4x1024x256_S4x1024x256_S4x1024x256_S4x1024x768_d2 := by
  have happ : ∀ (l₁ l₂ : List (HloOp τ sig (Elt Ideal))) W,
      StableHlo.after (l₁ ++ l₂) W = StableHlo.after l₂ (StableHlo.after l₁ W) := fun l₁ => by
    induction l₁ with
    | nil => intros; rfl
    | cons op l ih => intro l₂ W; exact ih l₂ _
  show StableHlo.after hostOps0 (fun b => m (c, b)) (Proc.devRef .tc main_v70) = _
  generalize hW : (fun b => m (c, b) : Valuation τ sig (Elt Ideal)) = W
  have hb : books m c = W (Proc.devRef .tc main_arg1) := by rw [← hW]
  rw [hb, hostOps0_cut, happ, happ, happ]
  obtain ⟨a1, a2⟩ := cut_first W
  set W1 := StableHlo.after (cut 0 30) W
  obtain ⟨b1, b2, b3⟩ := cut_second W1
  set W2 := StableHlo.after (cut 30 55) W1
  obtain ⟨c1, c2, c3⟩ := cut_third W2
  set W3 := StableHlo.after (cut 55 81) W2
  rw [cut_last, c1, c2, c3, b1, b2, b3, a1, a2]

variable {m c} {C : Fin 4 → Fin 1024 → Fin 256 → ℝ}

/-- From finite codebooks the host's three tables hold the codebooks. -/
theorem tables (hB : ∀ l k j, books m c (ix3 l k j) = (C l k j : EReal)) :
    IsTables (V m c main_v2) (V m c main_v70) (V m c main_v4) C where
  scaled l j k := by
    rw [V_scaled]
    pointwise
    rw [hB, ofBits_neg_two, EReal.coe_mul]
  parted l k j := by
    rw [V_parted]
    simp only [upper_eq, rounded]
    pointwise
    simp only [hB, ← EReal.coe_sub, sub_self]
    split_ifs <;> rfl
  normed l k := by
    rw [V_normed]
    pointwise
    simp only [hB, ← EReal.coe_mul, ← coe_sum]
    rfl

end Cert.KernelIdeal.Block

end
-- ==== Proof.Arrays.lean ====
/- What the kernel leaves in its two result arrays, from finite arguments: each row's four codes, and the sum of the rows
   that they name. -/
module

public import proofs.«01_k».proof.Proof.Tables
public import Idealize.ShloMosaic.Lib.Pipeline.ValueKit

@[expose] public section

set_option maxRecDepth 16384

noncomputable section

namespace Cert.KernelIdeal.Block

open Idealize.ShloMosaic Idealize.ShloMosaic.TcCoe Cert.KernelIdeal Cert.KernelIdeal.Gen Cert.Nearest Cert.Reals

variable {m : (ℓ : Loc nD τ sig) → Buf (Elt Ideal) ℓ} {c : Dev nD} {C : Fin 4 → Fin 1024 → Fin 256 → ℝ}
  {r : Fin 16384 → Fin 256 → ℝ}

/-- The data, as launched. -/
abbrev data (m : (ℓ : Loc nD τ sig) → Buf (Elt Ideal) ℓ) (c : Dev nD) : FVec Ideal S16384x256 .f32 :=
  m ((c : Thread nD τ).loc main_arg0)

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![0, 0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

/-- Row `i` of the block that point `t` reads. -/
def rowAt (t : Fin cfg0.N) (i : Fin 2048) : Fin 16384 :=
  ⟨t.val * 2048 + i.val, by have := (show t.val < 8 from t.isLt); omega⟩

theorem block0 (t : Fin cfg0.N) (i : Fin 2048) (j : Fin 256) : iblk m c 0 t (ix2 i j) = data m c (ix2 (rowAt t i) j) := by
  unfold rowAt
  blk_ext [iblk, V_main_arg0, index0 t]

theorem block1 (t : Fin cfg0.N) (l : Fin 4) (j : Fin 256) (k : Fin 1024) :
    iblk m c 1 t (ix3 l j k) = V m c main_v2 (ix3 l j k) := by
  blk_ext [iblk, index1 t]

theorem block2 (t : Fin cfg0.N) (l : Fin 4) (k : Fin 1024) (j : Fin 768) :
    iblk m c 2 t (ix3 l k j) = V m c main_v70 (ix3 l k j) := by
  blk_ext [iblk, index2 t]

theorem block3 (t : Fin cfg0.N) (l : Fin 4) (k : Fin 1024) : iblk m c 3 t (ix2 l k) = V m c main_v4 (ix2 l k) := by
  blk_ext [iblk, index3 t]

/-- At every point the three tables hold the codebooks. -/
theorem tablesAt (hB : ∀ l k j, books m c (ix3 l k j) = (C l k j : EReal)) (t : Fin cfg0.N) :
    IsTables (iblk m c 1 t) (iblk m c 2 t) (iblk m c 3 t) C where
  scaled l j k := (block1 t l j k).trans ((tables hB).scaled l j k)
  parted l k j := (block2 t l k j).trans ((tables hB).parted l k j)
  normed l k := (block3 t l k).trans ((tables hB).normed l k)

/-- Half a block, from its row `o`. -/
def half (t : Fin cfg0.N) (o : ℕ) (ho : o ≤ 1024) (i : Fin 1024) : Fin 16384 := rowAt t ⟨o + i.val, by omega⟩

/-- The upper half of the block that point `t` reads, -/
theorem half0 (hx : ∀ i j, data m c (ix2 i j) = (r i j : EReal)) (t : Fin cfg0.N) (i : Fin 1024) (j : Fin 256) :
    View.ld (iblk m c 0 t) r0_0 (ix2 i j) = (r (half t 0 (by omega) i) j : EReal) := by
  unfold half
  rw [← hx, ← block0]
  exact congrArg (iblk m c 0 t) (funext fun a => Fin.ext (by fin_cases a <;> simp [View.emb]))

/-- and its lower half. -/
theorem half1 (hx : ∀ i j, data m c (ix2 i j) = (r i j : EReal)) (t : Fin cfg0.N) (i : Fin 1024) (j : Fin 256) :
    View.ld (iblk m c 0 t) r0_1 (ix2 i j) = (r (half t 1024 le_rfl i) j : EReal) := by
  unfold half
  rw [← hx, ← block0]
  exact congrArg (iblk m c 0 t) (funext fun a => Fin.ext (by fin_cases a <;> simp [View.emb]))

/-- The codes of the rows `r`. -/
def codesOf (r : Fin 16384 → Fin 256 → ℝ) (C : Fin 4 → Fin 1024 → Fin 256 → ℝ) : IVec S16384x4 32 :=
  fun i => BitVec.ofNat 32 (code (r (i 0)) C (i 1))

/-- The sums of the rows that the codes name. -/
def sumsOf (r : Fin 16384 → Fin 256 → ℝ) (C : Fin 4 → Fin 1024 → Fin 256 → ℝ) : FVec Ideal S16384x256 .f32 :=
  fun i => (Nearest.total (r (i 0)) C (i 1) : EReal)

/-- Where a block's element lies in the first result. -/
theorem place4 (t : Fin cfg0.N) (y : ((cfg0.win 4).xblock (cfg0.grid.coords t)).Idx) :
    (((win0_4.blk t).view.emb y) 0 : ℕ) = t.val * 2048 + y 0 ∧ (((win0_4.blk t).view.emb y) 1 : ℕ) = y 1 := by
  constructor <;> blk_simp [index4 t]

/-- Where a block's element lies in the second result. -/
theorem place5 (t : Fin cfg0.N) (y : ((cfg0.win 5).xblock (cfg0.grid.coords t)).Idx) :
    (((win0_5.blk t).view.emb y) 0 : ℕ) = t.val * 2048 + y 0 ∧ (((win0_5.blk t).view.emb y) 1 : ℕ) = y 1 := by
  constructor <;> blk_simp [index5 t]

variable {v : FVec Ideal S1024x256 .f32} {x1 : Vec Ideal S4x256x1024 .f32} {x2 : Vec Ideal S4x1024x768 .bf16}
  {x3 : Vec Ideal S4x1024 .f32} {t : Fin cfg0.N} {o : ℕ} {ho : o ≤ 1024}

/-- One stored piece of codes: layer `l`, over half a block. -/
theorem codes_piece (T : IsTables x1 x2 x3 C) (hv : ∀ i j, v (ix2 i j) = (r (half t o ho i) j : EReal)) (l : Fin 4)
    (x : S1024x1.Idx) (z : S16384x4.Idx) (h0 : (z 0 : ℕ) = t.val * 2048 + (o + (x 0).val)) (h1 : (z 1 : ℕ) = l) :
    layerCodes v x1 x2 x3 l x = codesOf r C z := by
  obtain ⟨i, rfl⟩ : ∃ i : Fin 1024, x = ix2 i 0 := ⟨x 0, funext fun a => by
    fin_cases a
    · rfl
    · exact Subsingleton.elim (α := Fin 1) _ _⟩
  rw [layerCodes_apply T hv]
  unfold codesOf
  rw [show z 0 = half t o ho i from Fin.ext h0, show z 1 = l from Fin.ext h1]

/-- One stored piece of sums, over half a block. -/
theorem sums_piece (T : IsTables x1 x2 x3 C) (hv : ∀ i j, v (ix2 i j) = (r (half t o ho i) j : EReal))
    (x : S1024x256.Idx) (z : S16384x256.Idx) (h0 : (z 0 : ℕ) = t.val * 2048 + (o + (x 0).val)) (h1 : (z 1 : ℕ) = (x 1).val) :
    total v x1 x2 x3 4 x = sumsOf r C z := by
  obtain ⟨i, j, rfl⟩ : ∃ (i : Fin 1024) (j : Fin 256), x = ix2 i j := ⟨x 0, x 1, funext fun a => by fin_cases a <;> rfl⟩
  rw [total_apply T hv]
  unfold sumsOf
  rw [show z 0 = half t o ho i from Fin.ext h0, show z 1 = j from Fin.ext h1]

set_option maxHeartbeats 1000000 in
/-- The kernel's first result. -/
theorem codes_array (hx : ∀ i j, data m c (ix2 i j) = (r i j : EReal)) (hB : ∀ l k j, books m c (ix3 l k j) = (C l k j : EReal)) :
    (dats m 0 c).arrAt 4 cfg0.N = codesOf r C := by
  refine (dats m 0 c).arrAt_eq_of_covers 4 _ (by decide +kernel) fun t hf y => ?_
  blk_simp
  rw [after0_4, out_codes]
  have T := tablesAt hB t
  have hp := place4 t y
  canon_tiles x h
  iterate 4
    · exact codes_piece T (half1 hx t) _ x _ (hp.1.trans (by omega)) (hp.2.trans (h1.trans (by simp)))
    · exact codes_piece T (half0 hx t) _ x _ (hp.1.trans (by omega)) (hp.2.trans (h1.trans (by simp)))

/-- The kernel's second result. -/
theorem sums_array (hx : ∀ i j, data m c (ix2 i j) = (r i j : EReal)) (hB : ∀ l k j, books m c (ix3 l k j) = (C l k j : EReal)) :
    (dats m 0 c).arrAt 5 cfg0.N = sumsOf r C := by
  refine (dats m 0 c).arrAt_eq_of_covers 5 _ (by decide +kernel) fun t hf y => ?_
  blk_simp
  rw [after0_5, out_sums]
  have T := tablesAt hB t
  have hp := place5 t y
  canon_tiles x h
  · exact sums_piece T (half1 hx t) x _ (hp.1.trans (by omega)) (hp.2.trans h1)
  · exact sums_piece T (half0 hx t) x _ (hp.1.trans (by omega)) (hp.2.trans h1)

end Cert.KernelIdeal.Block

end
-- ==== Proof.Finite.lean ====
/- What the precondition says: every element of both arguments is a real number. -/
module

public import proofs.«01_k».proof.Defs
public import proofs.«01_k».proof.Proof.Gen.Pre_finite
public import proofs.«01_k».proof.Proof.Reals

@[expose] public section

noncomputable section

namespace Cert.Finite

open Idealize.ShloMosaic Cert.Reals

/-- An extended real whose absolute value is below infinity is a real. -/
theorem coe_toReal_of_abs {a : EReal} (h : FloatOps.cmpf (F := Ideal) (φ := .f32) .olt (FloatOps.hostAbsf a) (Ideal.ofBits .f32 0x7F800000#32) = 1#1) :
    a = (a.toReal : EReal) := by
  rw [ofBits_top] at h
  have h' : max a (-a) < ⊤ := by
    by_contra hn
    have h1 : BitVec.ofBool (decide (max a (-a) < ⊤)) = 1#1 := h
    rw [decide_eq_false hn] at h1
    exact absurd h1 (by decide)
  induction a using EReal.rec with
  | bot => simp at h'
  | top => simp at h'
  | coe r => rfl

/-- Under the precondition both arguments hold reals. -/
theorem real_of_pre {x : FVec Ideal Cert.Pre_finite.S16384x256 .f32} {B : FVec Ideal Cert.Pre_finite.S4x1024x256 .f32}
    (h : (Cert.Pre_finite.fn (F := Ideal) x B).1 = (fun _ => 1#1) ∧ (Cert.Pre_finite.fn (F := Ideal) x B).2 = (fun _ => 1#1)) :
    (∀ i, x i = ((x i).toReal : EReal)) ∧ ∀ i, B i = ((B i).toReal : EReal) :=
  ⟨fun i => coe_toReal_of_abs (congrFun h.1 i), fun i => coe_toReal_of_abs (congrFun h.2 i)⟩

end Cert.Finite

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite
public import proofs.«01_k».proof.Proof.RefChain
public import proofs.«01_k».proof.Proof.Arrays
public import proofs.«01_k».proof.Proof.Finite

@[expose] public section

set_option maxRecDepth 16384

noncomputable section

namespace Cert.Proof

open Idealize.ShloMosaic Idealize.SL.Sem

/-- From finite arguments both programs' results are the codes of the rows and the sums that they name. -/
theorem results_eq {x : FVec Ideal Cert.ReferenceIdeal.S16384x256 .f32} {B : FVec Ideal Cert.ReferenceIdeal.S4x1024x256 .f32}
    {r : Fin 16384 → Fin 256 → ℝ} {C : Fin 4 → Fin 1024 → Fin 256 → ℝ}
    (hx : ∀ i j, x (ix2 i j) = (r i j : EReal)) (hB : ∀ l k j, B (ix3 l k j) = (C l k j : EReal)) :
    Cert.ReferenceIdeal.Line.outCodes x B = Cert.KernelIdeal.Block.codesOf r C
      ∧ Cert.ReferenceIdeal.Line.decoded B (Cert.ReferenceIdeal.Line.outCodes x B) = Cert.KernelIdeal.Block.sumsOf r C := by
  constructor
  · funext z
    obtain ⟨i, l, rfl⟩ : ∃ (i : Fin 16384) (l : Fin 4), z = ix2 i l := ⟨z 0, z 1, funext fun a => by fin_cases a <;> rfl⟩
    exact Cert.ReferenceIdeal.Line.outCodes_apply hx hB i l
  · funext z
    obtain ⟨i, j, rfl⟩ : ∃ (i : Fin 16384) (j : Fin 256), z = ix2 i j := ⟨z 0, z 1, funext fun a => by fin_cases a <;> rfl⟩
    exact Cert.ReferenceIdeal.Line.decoded_apply hx hB i j

/-- The kernel's results equal the reference's. -/
theorem algebraic : Cert.algebraic_KernelIdeal_ReferenceIdeal_pre_finite := by
  intro m g m' g' hpre hagree
  obtain ⟨r, hx⟩ : ∃ r : Dev Cert.KernelIdeal.nD → Fin 16384 → Fin 256 → ℝ, ∀ c i j,
      (m ((c.tc : Thread Cert.KernelIdeal.nD Cert.KernelIdeal.τ).loc Cert.KernelIdeal.main_arg0) :
        FVec Ideal Cert.KernelIdeal.S16384x256 .f32) (ix2 i j) = (r c i j : EReal) :=
    ⟨fun c i j => _, fun c i j => (Cert.Finite.real_of_pre (hpre c)).1 (ix2 i j)⟩
  obtain ⟨C, hB⟩ : ∃ C : Dev Cert.KernelIdeal.nD → Fin 4 → Fin 1024 → Fin 256 → ℝ, ∀ c l k j,
      (m ((c.tc : Thread Cert.KernelIdeal.nD Cert.KernelIdeal.τ).loc Cert.KernelIdeal.main_arg1) :
        FVec Ideal Cert.KernelIdeal.S4x1024x256 .f32) (ix3 l k j) = (C c l k j : EReal) :=
    ⟨fun c l k j => _, fun c l k j => (Cert.Finite.real_of_pre (hpre c)).2 (ix3 l k j)⟩
  refine ⟨fun c => Cert.KernelIdeal.Block.codesOf (r c) (C c), fun c => Cert.KernelIdeal.Block.sumsOf (r c) (C c),
    (θ_run Cert.KernelIdeal.defs _ _).mono (fun _ h c => ?_) (Cert.KernelIdeal.Value.run_blocks m g),
    (θ_run Cert.ReferenceIdeal.defs _ _).mono (fun _ h c => ?_) (Cert.ReferenceIdeal.Line.run_results m' g')⟩
  · exact ⟨(h c).1.trans (Cert.KernelIdeal.Block.codes_array (hx c) (hB c)),
      (h c).2.1.trans (Cert.KernelIdeal.Block.sums_array (hx c) (hB c)), (h c).2.2⟩
  · have hr := h c
    rw [(hagree c).1, (hagree c).2] at hr
    have he := results_eq (hx c) (hB c)
    refine ⟨hr.1.trans he.1, hr.2.1.trans he.2, ?_⟩
    rw [(hagree c).1, (hagree c).2]
    exact hr.2.2

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Line.frame m ρ,
    fun m ρ _ => Cert.ReferenceIdeal.Line.frame m ρ,
    trivial,
    algebraic⟩

end Cert.Proof

end
